-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Pre_finite.lean ====
abbrev S32768x3072 : Shape := ⟨2, ![32768, 3072]⟩
abbrev S32768x2048 : Shape := ⟨2, ![32768, 2048]⟩
abbrev S_ : Shape := ⟨0, ![]⟩

class Facts : Prop where
  slices_S32768x3072_S32768x2048_0_0 : S32768x3072.Slices ![0, 0] S32768x2048
  bitsLt_bf16_f32 : FTy.bits .bf16 < FTy.bits .f32
  bcast_S_S32768x2048 : S_.BroadcastsInDim S32768x2048 (![] : Fin 0 → Fin S32768x2048.rank)

variable [Facts]

def fn {F : FTy → Type} [FloatOps F] (main_arg0 : FVec F S32768x3072 .bf16) : IVec S32768x2048 1 :=
  let main_v0 : FVec F S32768x2048 .bf16 := (extractStridedSlice S32768x2048 ![0, 0] · slices_S32768x3072_S32768x2048_0_0) main_arg0
  let main_v1 : FVec F S32768x2048 .f32 := (extf .f32 · bitsLt_bf16_f32) main_v0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  main_v4
-- ==== Pre_finite2.lean ====
abbrev S32768x2048 : Shape := ⟨2, ![32768, 2048]⟩
abbrev S32768x1024 : Shape := ⟨2, ![32768, 1024]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)

variable [Facts]

def fn {F : FTy → Type} [FloatOps F] (main_arg0 : FVec F S32768x2048 .bf16) (main_arg1 : FVec F S32768x2048 .bf16) (main_arg2 : FVec F S32768x1024 .bf16) : IVec S32768x2048 1 × IVec S32768x2048 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_v4 : FVec F S32768x2048 .f32 := (extf .f32 · bitsLt_bf16_f32) main_arg1
  let main_v5 : FVec F S32768x2048 .f32 := Host.absf main_v4
  let main_cst_0 : FVec F S_ .f32 := constant S_ .f32 0x7F800000#32
  let main_v6 : FVec F S32768x2048 .f32 := broadcastInDim S32768x2048 ![] bcast_S_S32768x2048 main_cst_0
  let main_v7 : IVec S32768x2048 1 := cmpf .olt main_v5 main_v6
  (main_v3, main_v7)
-- ==== Kernel.lean ====
abbrev S32768x3072 : Shape := ⟨2, ![32768, 3072]⟩
abbrev S32768x1024 : Shape := ⟨2, ![32768, 1024]⟩
abbrev S1024x128 : Shape := ⟨2, ![1024, 128]⟩
abbrev S16384x128 : Shape := ⟨2, ![16384, 128]⟩
abbrev S256x256 : Shape := ⟨2, ![256, 256]⟩
abbrev S1024x1 : Shape := ⟨2, ![1024, 1]⟩
abbrev S1024x256 : Shape := ⟨2, ![1024, 256]⟩
abbrev S256x128 : Shape := ⟨2, ![256, 128]⟩
abbrev S1024 : Shape := ⟨1, ![1024]⟩

abbrev nBuf : Space → Nat
  | .hbm => 2
  | .vmem => 8
  | .smem => 0
  | _ => 0

abbrev bufTy : (tb : Table) → Fin (tcTables nBuf tb) → BufTy
  | .hbm, ⟨0, _⟩ => ⟨S32768x3072, .bf16⟩
  | .hbm, ⟨1, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1024x128, .bf16⟩
  | .local _ .vmem, ⟨7, _⟩ => ⟨S1024x128, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c1024_i32 : BitVec 32 := 1024#32
  let v11 : BitVec 32 := Scalar.muli arg2 c1024_i32
  let c768_i32 : BitVec 32 := 768#32
  let v12 : BitVec 32 := Scalar.addi v11 c768_i32
  v12
def k0_off1 (i : grid0.Coords) (c768_i32 : BitVec 32) : Fin 2 → Nat :=
  let arg2 : BitVec 32 := BitVec.ofNat 32 (i 2).val
  let c1024_i32 : BitVec 32 := 1024#32
  let v11 : BitVec 32 := Scalar.muli arg2 c1024_i32
  let v12 : BitVec 32 := Scalar.addi v11 c768_i32
  let v13 : BitVec 32 := v12
  let v17 : Index := Scalar.indexCast v13
  let c0_3 : Index := 0#32
  ![v17.toNat, 0]
def k0_mult2 (i : grid0.Coords) : BitVec 32 :=
  let arg2 : BitVec 32 := BitVec.ofNat 32 (i 2).val
  let c1024_i32_15 : BitVec 32 := 1024#32
  let v51 : BitVec 32 := Scalar.muli arg2 c1024_i32_15
  let c512_i32 : BitVec 32 := 512#32
  let v52 : BitVec 32 := Scalar.addi v51 c512_i32
  v52
def k0_mult3 (i : grid0.Coords) : BitVec 32 :=
  let arg2 : BitVec 32 := BitVec.ofNat 32 (i 2).val
  let c1024_i32_29 : BitVec 32 := 1024#32
  let v91 : BitVec 32 := Scalar.muli arg2 c1024_i32_29
  let c256_i32 : BitVec 32 := 256#32
  let v92 : BitVec 32 := Scalar.addi v91 c256_i32
  v92
def k0_mult4 (i : grid0.Coords) : BitVec 32 :=
  let arg2 : BitVec 32 := BitVec.ofNat 32 (i 2).val
  let c1024_i32_43 : BitVec 32 := 1024#32
  let v131 : BitVec 32 := Scalar.muli arg2 c1024_i32_43
  let c0_i32 : BitVec 32 := 0#32
  let v132 : BitVec 32 := Scalar.addi v131 c0_i32
  v132
@[reducible] def k0_t1_loop (i : grid0.Coords) : Scf.Loop 32 :=
  let c0_i32_57 : BitVec 32 := 0#32
  let arg2 : BitVec 32 := BitVec.ofNat 32 (i 2).val
  let c4_i32 : BitVec 32 := 4#32
  let v171 : BitVec 32 := Scalar.muli arg2 c4_i32
  let v172 : BitVec 32 := Scalar.subi v171 c0_i32_57
  let c1_i32 : BitVec 32 := 1#32
  let v174 : BitVec 32 := Scalar.divsi v172 c1_i32
  let v175 : BitVec 32 := Scalar.muli v174 c1_i32
  let v176 : BitVec 32 := Scalar.addi c0_i32_57 v175
  let c1_i32_58 : BitVec 32 := 1#32
  ⟨c0_i32_57, v176, c1_i32_58⟩
def k0_mult5 (i : grid0.Coords) (k0_t1 : Fin (k0_t1_loop i).trips) : BitVec 32 :=
  let arg2 : BitVec 32 := BitVec.ofNat 32 (i 2).val
  let c4_i32 : BitVec 32 := 4#32
  let v171 : BitVec 32 := Scalar.muli arg2 c4_i32
  let c1_i32_62 : BitVec 32 := 1#32
  let v181 : BitVec 32 := Scalar.subi v171 c1_i32_62
  let c0_i32_57 : BitVec 32 := 0#32
  let c1_i32_58 : BitVec 32 := 1#32
  let arg7 : BitVec 32 := Scf.iv c0_i32_57 c1_i32_58 k0_t1
  let v182 : BitVec 32 := Scalar.subi v181 arg7
  let c256_i32_63 : BitVec 32 := 256#32
  let v183 : BitVec 32 := Scalar.muli v182 c256_i32_63
  v183
def k0_off2 (i : grid0.Coords) (k0_t1 : Fin (k0_t1_loop i).trips) : Fin 2 → Nat :=
  let arg2 : BitVec 32 := BitVec.ofNat 32 (i 2).val
  let c4_i32 : BitVec 32 := 4#32
  let v171 : BitVec 32 := Scalar.muli arg2 c4_i32
  let c1_i32_62 : BitVec 32 := 1#32
  let v181 : BitVec 32 := Scalar.subi v171 c1_i32_62
  let c0_i32_57 : BitVec 32 := 0#32
  let c1_i32_58 : BitVec 32 := 1#32
  let arg7 : BitVec 32 := Scf.iv c0_i32_57 c1_i32_58 k0_t1
  let v182 : BitVec 32 := Scalar.subi v181 arg7
  let c256_i32_63 : BitVec 32 := 256#32
  let v183 : BitVec 32 := Scalar.muli v182 c256_i32_63
  let v184 : BitVec 32 := v183
  let v185 : Index := Scalar.indexCast v184
  let c0_64 : Index := 0#32
  ![v185.toNat, 0]
@[reducible] def k0_t2_loop (i : grid0.Coords) : Scf.Loop 32 :=
  let c0_i32_57 : BitVec 32 := 0#32
  let arg2 : BitVec 32 := BitVec.ofNat 32 (i 2).val
  let c4_i32 : BitVec 32 := 4#32
  let v171 : BitVec 32 := Scalar.muli arg2 c4_i32
  let v172 : BitVec 32 := Scalar.subi v171 c0_i32_57
  let c1_i32 : BitVec 32 := 1#32
  let v174 : BitVec 32 := Scalar.divsi v172 c1_i32
  let v175 : BitVec 32 := Scalar.muli v174 c1_i32
  let v176 : BitVec 32 := Scalar.addi c0_i32_57 v175
  let v173 : BitVec 32 := Scalar.addi c0_i32_57 v172
  let c1_i32_59 : BitVec 32 := 1#32
  ⟨v176, v173, c1_i32_59⟩
def k0_mult6 (i : grid0.Coords) (k0_t2 : Fin (k0_t2_loop i).trips) : BitVec 32 :=
  let arg2 : BitVec 32 := BitVec.ofNat 32 (i 2).val
  let c4_i32 : BitVec 32 := 4#32
  let v171 : BitVec 32 := Scalar.muli arg2 c4_i32
  let c1_i32_62 : BitVec 32 := 1#32
  let v181 : BitVec 32 := Scalar.subi v171 c1_i32_62
  let c0_i32_57 : BitVec 32 := 0#32
  let v172 : BitVec 32 := Scalar.subi v171 c0_i32_57
  let c1_i32 : BitVec 32 := 1#32
  let v174 : BitVec 32 := Scalar.divsi v172 c1_i32
  let v175 : BitVec 32 := Scalar.muli v174 c1_i32
  let v176 : BitVec 32 := Scalar.addi c0_i32_57 v175
  let c1_i32_59 : BitVec 32 := 1#32
  let arg7 : BitVec 32 := Scf.iv v176 c1_i32_59 k0_t2
  let v182 : BitVec 32 := Scalar.subi v181 arg7
  let c256_i32_63 : BitVec 32 := 256#32
  let v183 : BitVec 32 := Scalar.muli v182 c256_i32_63
  v183
def k0_off3 (i : grid0.Coords) (k0_t2 : Fin (k0_t2_loop i).trips) : Fin 2 → Nat :=
  let arg2 : BitVec 32 := BitVec.ofNat 32 (i 2).val
  let c4_i32 : BitVec 32 := 4#32
  let v171 : BitVec 32 := Scalar.muli arg2 c4_i32
  let c1_i32_62 : BitVec 32 := 1#32
  let v181 : BitVec 32 := Scalar.subi v171 c1_i32_62
  let c0_i32_57 : BitVec 32 := 0#32
  let v172 : BitVec 32 := Scalar.subi v171 c0_i32_57
  let c1_i32 : BitVec 32 := 1#32
  let v174 : BitVec 32 := Scalar.divsi v172 c1_i32
  let v175 : BitVec 32 := Scalar.muli v174 c1_i32
  let v176 : BitVec 32 := Scalar.addi c0_i32_57 v175
  let c1_i32_59 : BitVec 32 := 1#32
  let arg7 : BitVec 32 := Scf.iv v176 c1_i32_59 k0_t2
  let v182 : BitVec 32 := Scalar.subi v181 arg7
  let c256_i32_63 : BitVec 32 := 256#32
  let v183 : BitVec 32 := Scalar.muli v182 c256_i32_63
  let v184 : BitVec 32 := v183
  let v185 : Index := Scalar.indexCast v184
  let c0_64 : Index := 0#32
  ![v185.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S32768x3072 : Shape := ⟨2, ![32768, 3072]⟩
abbrev S2x16384x3x8x128 : Shape := ⟨5, ![2, 16384, 3, 8, 128]⟩
abbrev S2x16384x1x8x128 : Shape := ⟨5, ![2, 16384, 1, 8, 128]⟩
abbrev S2x16384x8x128 : Shape := ⟨4, ![2, 16384, 8, 128]⟩
abbrev S2x8x16384x16384 : Shape := ⟨4, ![2, 8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x8x128x16384 : Shape := ⟨4, ![2, 8, 128, 16384]⟩
abbrev S32768x1024 : Shape := ⟨2, ![32768, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S32768x3072, .f32⟩
  | .hbm, ⟨2, _⟩ => ⟨S2x16384x3x8x128, .f32⟩
  | .hbm, ⟨3, _⟩ => ⟨S2x16384x1x8x128, .f32⟩
  | .hbm, ⟨4, _⟩ => ⟨S2x16384x8x128, .f32⟩
  | .hbm, ⟨5, _⟩ => ⟨S2x16384x1x8x128, .f32⟩
  | .hbm, ⟨6, _⟩ => ⟨S2x16384x8x128, .f32⟩
  | .hbm, ⟨7, _⟩ => ⟨S2x16384x1x8x128, .f32⟩
  | .hbm, ⟨8, _⟩ => ⟨S2x16384x8x128, .f32⟩
  | .hbm, ⟨9, _⟩ => ⟨S2x8x16384x16384, .f32⟩
  | .hbm, ⟨10, _⟩ => ⟨S16384, .i32⟩
  | .hbm, ⟨11, _⟩ => ⟨S1x16384, .i32⟩
  | .hbm, ⟨12, _⟩ => ⟨S16384x1, .i32⟩
  | .hbm, ⟨13, _⟩ => ⟨S16384x16384, .i32⟩
  | .hbm, ⟨14, _⟩ => ⟨S16384x16384, .i32⟩
  | .hbm, ⟨15, _⟩ => ⟨S16384x16384, .i1⟩
  | .hbm, ⟨16, _⟩ => ⟨S2x8x16384x16384, .f32⟩
  | .hbm, ⟨17, _⟩ => ⟨S2x8x16384x16384, .f32⟩
  | .hbm, ⟨18, _⟩ => ⟨S_, .f32⟩
  | .hbm, ⟨19, _⟩ => ⟨S2x8x16384x16384, .f32⟩
  | .hbm, ⟨20, _⟩ => ⟨S2x8x16384x16384, .f32⟩
  | .hbm, ⟨21, _⟩ => ⟨S2x8x16384x16384, .f32⟩
  | .hbm, ⟨22, _⟩ => ⟨S2x8x16384x16384, .f32⟩
  | .hbm, ⟨23, _⟩ => ⟨S2x8x16384x16384, .i1⟩
  | .hbm, ⟨24, _⟩ => ⟨S2x8x16384x16384, .f32⟩
  | .hbm, ⟨25, _⟩ => ⟨S2x8x16384x16384, .f32⟩
  | .hbm, ⟨26, _⟩ => ⟨S2x8x16384x16384, .f32⟩
  | .hbm, ⟨27, _⟩ => ⟨S2x8x16384x16384, .f32⟩
  | .hbm, ⟨28, _⟩ => ⟨S2x8x16384x16384, .f32⟩
  | .hbm, ⟨29, _⟩ => ⟨S2x8x16384x16384, .f32⟩
  | .hbm, ⟨30, _⟩ => ⟨S2x8x16384x16384, .f32⟩
  | .hbm, ⟨31, _⟩ => ⟨S2x8x16384x16384, .f32⟩
  | .hbm, ⟨32, _⟩ => ⟨S2x8x16384x16384, .f32⟩
  | .hbm, ⟨33, _⟩ => ⟨S_, .f32⟩
  | .hbm, ⟨34, _⟩ => ⟨S_, .f32⟩
  | .hbm, ⟨35, _⟩ => ⟨S2x8x16384x16384, .i1⟩
  | .hbm, ⟨36, _⟩ => ⟨S2x8x16384x16384, .f32⟩
  | .hbm, ⟨37, _⟩ => ⟨S2x8x16384x16384, .f32⟩
  | .hbm, ⟨38, _⟩ => ⟨S_, .f32⟩
  | .hbm, ⟨39, _⟩ => ⟨S_, .f32⟩
  | .hbm, ⟨40, _⟩ => ⟨S2x8x16384x16384, .f32⟩
  | .hbm, ⟨41, _⟩ => ⟨S2x8x16384x16384, .f32⟩
  | .hbm, ⟨42, _⟩ => ⟨S2x8x16384x16384, .f32⟩
  | .hbm, ⟨43, _⟩ => ⟨S_, .f32⟩
  | .hbm, ⟨44, _⟩ => ⟨S2x8x16384x16384, .f32⟩
  | .hbm, ⟨45, _⟩ => ⟨S2x8x16384x16384, .f32⟩
  | .hbm, ⟨46, _⟩ => ⟨S2x8x16384x16384, .f32⟩
  | .hbm, ⟨47, _⟩ => ⟨S2x8x16384x16384, .f32⟩
  | .hbm, ⟨48, _⟩ => ⟨S2x8x16384x16384, .i1⟩
  | .hbm, ⟨49, _⟩ => ⟨S2x8x16384x16384, .f32⟩
  | .hbm, ⟨50, _⟩ => ⟨S2x8x16384x16384, .f32⟩
  | .hbm, ⟨51, _⟩ => ⟨S2x8x16384x16384, .f32⟩
  | .hbm, ⟨52, _⟩ => ⟨S2x8x16384x16384, .f32⟩
  | .hbm, ⟨53, _⟩ => ⟨S2x8x16384x16384, .f32⟩
  | .hbm, ⟨54, _⟩ => ⟨S2x8x16384x16384, .f32⟩
  | .hbm, ⟨55, _⟩ => ⟨S2x8x16384x16384, .f32⟩
  | .hbm, ⟨56, _⟩ => ⟨S2x8x16384x16384, .f32⟩
  | .hbm, ⟨57, _⟩ => ⟨S2x8x16384x16384, .f32⟩
  | .hbm, ⟨58, _⟩ => ⟨S2x8x16384x16384, .f32⟩
  | .hbm, ⟨59, _⟩ => ⟨S2x8x16384x16384, .f32⟩
  | .hbm, ⟨60, _⟩ => ⟨S_, .f32⟩
  | .hbm, ⟨61, _⟩ => ⟨S_, .f32⟩
  | .hbm, ⟨62, _⟩ => ⟨S2x8x16384x16384, .i1⟩
  | .hbm, ⟨63, _⟩ => ⟨S2x8x16384x16384, .f32⟩
  | .hbm, ⟨64, _⟩ => ⟨S2x8x16384x16384, .f32⟩
  | .hbm, ⟨65, _⟩ => ⟨S2x8x128x16384, .f32⟩
  | .hbm, ⟨66, _⟩ => ⟨S2x16384x8x128, .f32⟩
  | .hbm, ⟨67, _⟩ => ⟨S32768x1024, .f32⟩
  | .hbm, ⟨68, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v16 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_call2_cst : Ref sig .tc := ⟨.hbm, 38, rfl⟩
abbrev main_call2_v0 : Ref sig .tc := ⟨.hbm, 39, rfl⟩
abbrev main_v18 : Ref sig .tc := ⟨.hbm, 40, rfl⟩
abbrev main_v19 : Ref sig .tc := ⟨.hbm, 41, rfl⟩
abbrev main_call3_v0 : Ref sig .tc := ⟨.hbm, 42, rfl⟩
abbrev main_call3_call0_cst : Ref sig .tc := ⟨.hbm, 43, rfl⟩
abbrev main_call3_call0_v0 : Ref sig .tc := ⟨.hbm, 44, rfl⟩
abbrev main_call3_call0_v1 : Ref sig .tc := ⟨.hbm, 45, rfl⟩
abbrev main_call3_call0_v2 : Ref sig .tc := ⟨.hbm, 46, rfl⟩
abbrev main_call3_call0_v3 : Ref sig .tc := ⟨.hbm, 47, rfl⟩
abbrev main_call3_call0_v4 : Ref sig .tc := ⟨.hbm, 48, rfl⟩
abbrev main_call3_call0_v5 : Ref sig .tc := ⟨.hbm, 49, rfl⟩
abbrev main_call3_call0_v6 : Ref sig .tc := ⟨.hbm, 50, rfl⟩
abbrev main_call3_call0_v7 : Ref sig .tc := ⟨.hbm, 51, rfl⟩
abbrev main_call3_call0_v8 : Ref sig .tc := ⟨.hbm, 52, rfl⟩
abbrev main_call3_call0_v9 : Ref sig .tc := ⟨.hbm, 53, rfl⟩
abbrev main_call3_call0_v10 : Ref sig .tc := ⟨.hbm, 54, rfl⟩
abbrev main_call3_call0_v11 : Ref sig .tc := ⟨.hbm, 55, rfl⟩
abbrev main_call3_v1 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_0 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩

abbrev nD : Nat := 1
abbrev τ : Topo := Topo.v7x

variable {F : FTy → Type} [FloatOps F]
-- ==== Kernel2.lean ====
abbrev S32768x2048 : Shape := ⟨2, ![32768, 2048]⟩
abbrev S32768x1024 : Shape := ⟨2, ![32768, 1024]⟩
abbrev S512x256 : Shape := ⟨2, ![512, 256]⟩
abbrev S16384x256 : Shape := ⟨2, ![16384, 256]⟩
abbrev S16384x128 : Shape := ⟨2, ![16384, 128]⟩
abbrev S512x128 : Shape := ⟨2, ![512, 128]⟩
abbrev S512x512 : Shape := ⟨2, ![512, 512]⟩
abbrev S512x1 : Shape := ⟨2, ![512, 1]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S32768x1024, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S16384x128, .bf16⟩
  | .local _ .vmem, ⟨5, _⟩ => ⟨S16384x128, .bf16⟩
  | .local _ .vmem, ⟨6, _⟩ => ⟨S512x128, .bf16⟩
  | .local _ .vmem, ⟨7, _⟩ => ⟨S512x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def k0_mult1 (i : grid0.Coords) : BitVec 32 :=
  let arg2 : BitVec 32 := BitVec.ofNat 32 (i 2).val
  let c512_i32 : BitVec 32 := 512#32
  let v51 : BitVec 32 := Scalar.muli arg2 c512_i32
  v51
def k0_off1 (i : grid0.Coords) : Fin 2 → Nat :=
  let arg2 : BitVec 32 := BitVec.ofNat 32 (i 2).val
  let c512_i32 : BitVec 32 := 512#32
  let v51 : BitVec 32 := Scalar.muli arg2 c512_i32
  let v52 : BitVec 32 := v51
  let v57 : Index := Scalar.indexCast v52
  let c0_14 : Index := 0#32
  ![v57.toNat, 0]
def k0_off2 (i : grid0.Coords) : Fin 2 → Nat :=
  let arg2 : BitVec 32 := BitVec.ofNat 32 (i 2).val
  let c512_i32 : BitVec 32 := 512#32
  let v51 : BitVec 32 := Scalar.muli arg2 c512_i32
  let v52 : BitVec 32 := v51
  let v59 : Index := Scalar.indexCast v52
  let c0_15 : Index := 0#32
  ![v59.toNat, 0]
@[reducible] def k0_t1_loop (i : grid0.Coords) : Scf.Loop 32 :=
  let c0_i32_21 : BitVec 32 := 0#32
  let arg2 : BitVec 32 := BitVec.ofNat 32 (i 2).val
  let v81 : BitVec 32 := Scalar.subi arg2 c0_i32_21
  let c1_i32_22 : BitVec 32 := 1#32
  let v83 : BitVec 32 := Scalar.divsi v81 c1_i32_22
  let v84 : BitVec 32 := Scalar.muli v83 c1_i32_22
  let v85 : BitVec 32 := Scalar.addi c0_i32_21 v84
  let c1_i32_23 : BitVec 32 := 1#32
  ⟨c0_i32_21, v85, c1_i32_23⟩
def k0_mult2 (i : grid0.Coords) (k0_t1 : Fin (k0_t1_loop i).trips) : BitVec 32 :=
  let c0_i32_21 : BitVec 32 := 0#32
  let c1_i32_23 : BitVec 32 := 1#32
  let arg7 : BitVec 32 := Scf.iv c0_i32_21 c1_i32_23 k0_t1
  let c512_i32_27 : BitVec 32 := 512#32
  let v92 : BitVec 32 := Scalar.muli arg7 c512_i32_27
  v92
def k0_off3 (i : grid0.Coords) (k0_t1 : Fin (k0_t1_loop i).trips) : Fin 2 → Nat :=
  let c0_i32_21 : BitVec 32 := 0#32
  let c1_i32_23 : BitVec 32 := 1#32
  let arg7 : BitVec 32 := Scf.iv c0_i32_21 c1_i32_23 k0_t1
  let c512_i32_27 : BitVec 32 := 512#32
  let v92 : BitVec 32 := Scalar.muli arg7 c512_i32_27
  let v93 : BitVec 32 := v92
  let v94 : Index := Scalar.indexCast v93
  let c0_28 : Index := 0#32
  ![v94.toNat, 0]
def k0_off4 (i : grid0.Coords) (k0_t1 : Fin (k0_t1_loop i).trips) : Fin 2 → Nat :=
  let c0_i32_21 : BitVec 32 := 0#32
  let c1_i32_23 : BitVec 32 := 1#32
  let arg7 : BitVec 32 := Scf.iv c0_i32_21 c1_i32_23 k0_t1
  let c512_i32_27 : BitVec 32 := 512#32
  let v92 : BitVec 32 := Scalar.muli arg7 c512_i32_27
  let v93 : BitVec 32 := v92
  let v96 : Index := Scalar.indexCast v93
  let c0_29 : Index := 0#32
  ![v96.toNat, 0]
@[reducible] def k0_t2_loop (i : grid0.Coords) : Scf.Loop 32 :=
  let c0_i32_21 : BitVec 32 := 0#32
  let arg2 : BitVec 32 := BitVec.ofNat 32 (i 2).val
  let v81 : BitVec 32 := Scalar.subi arg2 c0_i32_21
  let c1_i32_22 : BitVec 32 := 1#32
  let v83 : BitVec 32 := Scalar.divsi v81 c1_i32_22
  let v84 : BitVec 32 := Scalar.muli v83 c1_i32_22
  let v85 : BitVec 32 := Scalar.addi c0_i32_21 v84
  let v82 : BitVec 32 := Scalar.addi c0_i32_21 v81
  let c1_i32_24 : BitVec 32 := 1#32
  ⟨v85, v82, c1_i32_24⟩
def k0_mult3 (i : grid0.Coords) (k0_t2 : Fin (k0_t2_loop i).trips) : BitVec 32 :=
  let c0_i32_21 : BitVec 32 := 0#32
  let arg2 : BitVec 32 := BitVec.ofNat 32 (i 2).val
  let v81 : BitVec 32 := Scalar.subi arg2 c0_i32_21
  let c1_i32_22 : BitVec 32 := 1#32
  let v83 : BitVec 32 := Scalar.divsi v81 c1_i32_22
  let v84 : BitVec 32 := Scalar.muli v83 c1_i32_22
  let v85 : BitVec 32 := Scalar.addi c0_i32_21 v84
  let c1_i32_24 : BitVec 32 := 1#32
  let arg7 : BitVec 32 := Scf.iv v85 c1_i32_24 k0_t2
  let c512_i32_27 : BitVec 32 := 512#32
  let v92 : BitVec 32 := Scalar.muli arg7 c512_i32_27
  v92
def k0_off5 (i : grid0.Coords) (k0_t2 : Fin (k0_t2_loop i).trips) : Fin 2 → Nat :=
  let c0_i32_21 : BitVec 32 := 0#32
  let arg2 : BitVec 32 := BitVec.ofNat 32 (i 2).val
  let v81 : BitVec 32 := Scalar.subi arg2 c0_i32_21
  let c1_i32_22 : BitVec 32 := 1#32
  let v83 : BitVec 32 := Scalar.divsi v81 c1_i32_22
  let v84 : BitVec 32 := Scalar.muli v83 c1_i32_22
  let v85 : BitVec 32 := Scalar.addi c0_i32_21 v84
  let c1_i32_24 : BitVec 32 := 1#32
  let arg7 : BitVec 32 := Scf.iv v85 c1_i32_24 k0_t2
  let c512_i32_27 : BitVec 32 := 512#32
  let v92 : BitVec 32 := Scalar.muli arg7 c512_i32_27
  let v93 : BitVec 32 := v92
  let v94 : Index := Scalar.indexCast v93
  let c0_28 : Index := 0#32
  ![v94.toNat, 0]
def k0_off6 (i : grid0.Coords) (k0_t2 : Fin (k0_t2_loop i).trips) : Fin 2 → Nat :=
  let c0_i32_21 : BitVec 32 := 0#32
  let arg2 : BitVec 32 := BitVec.ofNat 32 (i 2).val
  let v81 : BitVec 32 := Scalar.subi arg2 c0_i32_21
  let c1_i32_22 : BitVec 32 := 1#32
  let v83 : BitVec 32 := Scalar.divsi v81 c1_i32_22
  let v84 : BitVec 32 := Scalar.muli v83 c1_i32_22
  let v85 : BitVec 32 := Scalar.addi c0_i32_21 v84
  let c1_i32_24 : BitVec 32 := 1#32
  let arg7 : BitVec 32 := Scf.iv v85 c1_i32_24 k0_t2
  let c512_i32_27 : BitVec 32 := 512#32
  let v92 : BitVec 32 := Scalar.muli arg7 c512_i32_27
  let v93 : BitVec 32 := v92
  let v96 : Index := Scalar.indexCast v93
  let c0_29 : Index := 0#32
  ![v96.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S32768x2048 : Shape := ⟨2, ![32768, 2048]⟩
abbrev S32768x1024 : Shape := ⟨2, ![32768, 1024]⟩
abbrev S2x16384x8x256 : Shape := ⟨4, ![2, 16384, 8, 256]⟩
abbrev S2x16384x8x128 : Shape := ⟨4, ![2, 16384, 8, 128]⟩
abbrev S2x8x16384x16384 : Shape := ⟨4, ![2, 8, 16384, 16384]⟩
abbrev S16384 : Shape := ⟨1, ![16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x1024, .bf16⟩
  | .hbm, ⟨3, _⟩ => ⟨S32768x2048, .f32⟩
  | .hbm, ⟨4, _⟩ => ⟨S2x16384x8x256, .f32⟩
  | .hbm, ⟨5, _⟩ => ⟨S32768x2048, .f32⟩
  | .hbm, ⟨6, _⟩ => ⟨S2x16384x8x256, .f32⟩
  | .hbm, ⟨7, _⟩ => ⟨S32768x1024, .f32⟩
  | .hbm, ⟨8, _⟩ => ⟨S2x16384x8x128, .f32⟩
  | .hbm, ⟨9, _⟩ => ⟨S2x8x16384x16384, .f32⟩
  | .hbm, ⟨10, _⟩ => ⟨S16384, .i32⟩
  | .hbm, ⟨11, _⟩ => ⟨S_, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i32⟩
  | .hbm, ⟨20, _⟩ => ⟨S16384, .i32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S1x16384, .i32⟩
  | .hbm, ⟨30, _⟩ => ⟨S16384x1, .i32⟩
  | .hbm, ⟨31, _⟩ => ⟨S16384x16384, .i32⟩
  | .hbm, ⟨32, _⟩ => ⟨S16384x16384, .i32⟩
  | .hbm, ⟨33, _⟩ => ⟨S16384x16384, .i1⟩
  | .hbm, ⟨34, _⟩ => ⟨S_, .f32⟩
  | .hbm, ⟨35, _⟩ => ⟨S_, .f32⟩
  | .hbm, ⟨36, _⟩ => ⟨S2x8x16384x16384, .i1⟩
  | .hbm, ⟨37, _⟩ => ⟨S2x8x16384x16384, .f32⟩
  | .hbm, ⟨38, _⟩ => ⟨S2x8x16384x16384, .f32⟩
  | .hbm, ⟨39, _⟩ => ⟨S_, .f32⟩
  | .hbm, ⟨40, _⟩ => ⟨S2x8x16384, .f32⟩
  | .hbm, ⟨41, _⟩ => ⟨S_, .f32⟩
  | .hbm, ⟨42, _⟩ => ⟨S2x8x16384, .f32⟩
  | .hbm, ⟨43, _⟩ => ⟨S2x8x16384, .f32⟩
  | .hbm, ⟨44, _⟩ => ⟨S2x8x16384x1, .f32⟩
  | .hbm, ⟨45, _⟩ => ⟨S2x8x16384x16384, .f32⟩
  | .hbm, ⟨46, _⟩ => ⟨S2x8x16384x16384, .f32⟩
  | .hbm, ⟨47, _⟩ => ⟨S2x8x16384x16384, .f32⟩
  | .hbm, ⟨48, _⟩ => ⟨S_, .f32⟩
  | .hbm, ⟨49, _⟩ => ⟨S2x8x16384, .f32⟩
  | .hbm, ⟨50, _⟩ => ⟨S2x8x16384x1, .f32⟩
  | .hbm, ⟨51, _⟩ => ⟨S2x8x16384x16384, .f32⟩
  | .hbm, ⟨52, _⟩ => ⟨S2x8x16384x16384, .f32⟩
  | .hbm, ⟨53, _⟩ => ⟨S2x8x128x16384, .f32⟩
  | .hbm, ⟨54, _⟩ => ⟨S2x16384x8x128, .f32⟩
  | .hbm, ⟨55, _⟩ => ⟨S32768x1024, .f32⟩
  | .hbm, ⟨56, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩

abbrev nD : Nat := 1
abbrev τ : Topo := Topo.v7x

variable {F : FTy → Type} [FloatOps F]
-- ==== Kernel3.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 6
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v19 : BitVec 1 := Scalar.cmpi .eq arg1 c10_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S32768x2048 : Shape := ⟨2, ![32768, 2048]⟩
abbrev S1x2048 : Shape := ⟨2, ![1, 2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S32768x11264 : Shape := ⟨2, ![32768, 11264]⟩
abbrev S32768x5632 : Shape := ⟨2, ![32768, 5632]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S1x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S2048x11264, .f32⟩
  | .hbm, ⟨21, _⟩ => ⟨S32768x11264, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S32768x5632, .f32⟩
  | .hbm, ⟨26, _⟩ => ⟨S_, .f32⟩
  | .hbm, ⟨27, _⟩ => ⟨S32768x5632, .f32⟩
  | .hbm, ⟨28, _⟩ => ⟨S32768x5632, .f32⟩
  | .hbm, ⟨29, _⟩ => ⟨S_, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x5632, .f32⟩
  | .hbm, ⟨34, _⟩ => ⟨S5632x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Kernel4.lean ====
abbrev S32768x2048 : Shape := ⟨2, ![32768, 2048]⟩
abbrev S1x2048 : Shape := ⟨2, ![1, 2048]⟩
abbrev S2048x3072 : Shape := ⟨2, ![2048, 3072]⟩
abbrev S1x3072 : Shape := ⟨2, ![1, 3072]⟩
abbrev S32768x3072 : Shape := ⟨2, ![32768, 3072]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x3072, .bf16⟩
  | .hbm, ⟨3, _⟩ => ⟨S1x3072, .f32⟩
  | .hbm, ⟨4, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel4Ideal.lean ====
abbrev S32768x2048 : Shape := ⟨2, ![32768, 2048]⟩
abbrev S1x2048 : Shape := ⟨2, ![1, 2048]⟩
abbrev S2048x3072 : Shape := ⟨2, ![2048, 3072]⟩
abbrev S1x3072 : Shape := ⟨2, ![1, 3072]⟩
abbrev S32768x3072 : Shape := ⟨2, ![32768, 3072]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x3072, .bf16⟩
  | .hbm, ⟨3, _⟩ => ⟨S1x3072, .f32⟩
  | .hbm, ⟨4, _⟩ => ⟨S32768x3072, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S32768x2048 : Shape := ⟨2, ![32768, 2048]⟩
abbrev S1x2048 : Shape := ⟨2, ![1, 2048]⟩
abbrev S2048x3072 : Shape := ⟨2, ![2048, 3072]⟩
abbrev S1x3072 : Shape := ⟨2, ![1, 3072]⟩
abbrev S_ : Shape := ⟨0, ![]⟩
abbrev S32768 : Shape := ⟨1, ![32768]⟩
abbrev S32768x1 : Shape := ⟨2, ![32768, 1]⟩
abbrev S32768x3072 : Shape := ⟨2, ![32768, 3072]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x3072, .bf16⟩
  | .hbm, ⟨3, _⟩ => ⟨S1x3072, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S2048x3072, .f32⟩
  | .hbm, ⟨20, _⟩ => ⟨S32768x3072, .f32⟩
  | .hbm, ⟨21, _⟩ => ⟨S32768x3072, .f32⟩
  | .hbm, ⟨22, _⟩ => ⟨S32768x3072, .f32⟩
  | .hbm, ⟨23, _⟩ => ⟨S32768x3072, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S32768x2048 : Shape := ⟨2, ![32768, 2048]⟩
abbrev S1x2048 : Shape := ⟨2, ![1, 2048]⟩
abbrev S2048x4096 : Shape := ⟨2, ![2048, 4096]⟩
abbrev S1x4096 : Shape := ⟨2, ![1, 4096]⟩
abbrev S32768x4096 : Shape := ⟨2, ![32768, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x4096, .bf16⟩
  | .hbm, ⟨3, _⟩ => ⟨S1x4096, .f32⟩
  | .hbm, ⟨4, _⟩ => ⟨S32768x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32768x2048 : Shape := ⟨2, ![32768, 2048]⟩
abbrev S1x2048 : Shape := ⟨2, ![1, 2048]⟩
abbrev S2048x4096 : Shape := ⟨2, ![2048, 4096]⟩
abbrev S1x4096 : Shape := ⟨2, ![1, 4096]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x4096, .bf16⟩
  | .hbm, ⟨3, _⟩ => ⟨S1x4096, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S2048x4096, .f32⟩
  | .hbm, ⟨20, _⟩ => ⟨S32768x4096, .f32⟩
  | .hbm, ⟨21, _⟩ => ⟨S32768x4096, .f32⟩
  | .hbm, ⟨22, _⟩ => ⟨S32768x4096, .f32⟩
  | .hbm, ⟨23, _⟩ => ⟨S32768x4096, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel6.lean ====
abbrev S32768x2048 : Shape := ⟨2, ![32768, 2048]⟩
abbrev S32768x1024 : Shape := ⟨2, ![32768, 1024]⟩
abbrev S32768x4096 : Shape := ⟨2, ![32768, 4096]⟩
abbrev S1x4096 : Shape := ⟨2, ![1, 4096]⟩
abbrev S1024x2048 : Shape := ⟨2, ![1024, 2048]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S32768x4096, .bf16⟩
  | .hbm, ⟨4, _⟩ => ⟨S1x4096, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S1x2048, .f32⟩
  | .hbm, ⟨9, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S1024x2048, .bf16⟩
  | .local _ .vmem, ⟨10, _⟩ => ⟨S1024x2048, .bf16⟩
  | .local _ .vmem, ⟨11, _⟩ => ⟨S2048x2048, .bf16⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S32768x2048 : Shape := ⟨2, ![32768, 2048]⟩
abbrev S32768x1024 : Shape := ⟨2, ![32768, 1024]⟩
abbrev S32768x4096 : Shape := ⟨2, ![32768, 4096]⟩
abbrev S1x4096 : Shape := ⟨2, ![1, 4096]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 49
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S32768x4096, .bf16⟩
  | .hbm, ⟨4, _⟩ => ⟨S1x4096, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S1x2048, .f32⟩
  | .hbm, ⟨9, _⟩ => ⟨S32768x1024, .f32⟩
  | .hbm, ⟨10, _⟩ => ⟨S1024x2048, .f32⟩
  | .hbm, ⟨11, _⟩ => ⟨S32768x2048, .f32⟩
  | .hbm, ⟨12, _⟩ => ⟨S32768x1024, .f32⟩
  | .hbm, ⟨13, _⟩ => ⟨S1024x2048, .f32⟩
  | .hbm, ⟨14, _⟩ => ⟨S32768x2048, .f32⟩
  | .hbm, ⟨15, _⟩ => ⟨S32768x4096, .f32⟩
  | .hbm, ⟨16, _⟩ => ⟨S32768x4096, .f32⟩
  | .hbm, ⟨17, _⟩ => ⟨S32768x4096, .f32⟩
  | .hbm, ⟨18, _⟩ => ⟨S32768x4096, .f32⟩
  | .hbm, ⟨19, _⟩ => ⟨S32768x4096, .f32⟩
  | .hbm, ⟨20, _⟩ => ⟨S_, .f32⟩
  | .hbm, ⟨21, _⟩ => ⟨S32768x4096, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S2048x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel7.lean ====
abbrev S32768x2048 : Shape := ⟨2, ![32768, 2048]⟩
abbrev S32768 : Shape := ⟨1, ![32768]⟩
abbrev S1x2048 : Shape := ⟨2, ![1, 2048]⟩
abbrev S2048x1344 : Shape := ⟨2, ![2048, 1344]⟩
abbrev S1x768 : Shape := ⟨2, ![1, 768]⟩
abbrev S768x1536 : Shape := ⟨2, ![768, 1536]⟩
abbrev S1x512 : Shape := ⟨2, ![1, 512]⟩
abbrev S512x2048 : Shape := ⟨2, ![512, 2048]⟩
abbrev S_ : Shape := ⟨0, ![]⟩
abbrev S2048x64 : Shape := ⟨2, ![2048, 64]⟩
abbrev S2048x1408 : Shape := ⟨2, ![2048, 1408]⟩
abbrev S768x8x192 : Shape := ⟨3, ![768, 8, 192]⟩
abbrev S768x8x256 : Shape := ⟨3, ![768, 8, 256]⟩
abbrev S768x2048 : Shape := ⟨2, ![768, 2048]⟩
abbrev S512x8x256 : Shape := ⟨3, ![512, 8, 256]⟩
abbrev S512x8x128 : Shape := ⟨3, ![512, 8, 128]⟩
abbrev S512x1024 : Shape := ⟨2, ![512, 1024]⟩
abbrev S32 : Shape := ⟨1, ![32]⟩
abbrev S32768x1 : Shape := ⟨2, ![32768, 1]⟩
abbrev S1x32 : Shape := ⟨2, ![1, 32]⟩
abbrev S32768x32 : Shape := ⟨2, ![32768, 32]⟩
abbrev S32768x64 : Shape := ⟨2, ![32768, 64]⟩
abbrev S32768x384 : Shape := ⟨2, ![32768, 384]⟩
abbrev S32768x1024 : Shape := ⟨2, ![32768, 1024]⟩
abbrev S512x384 : Shape := ⟨2, ![512, 384]⟩
abbrev S512 : Shape := ⟨1, ![512]⟩
abbrev S512x1 : Shape := ⟨2, ![512, 1]⟩
abbrev S512x1408 : Shape := ⟨2, ![512, 1408]⟩
abbrev S512x768 : Shape := ⟨2, ![512, 768]⟩
abbrev S512x512 : Shape := ⟨2, ![512, 512]⟩
abbrev S512x128 : Shape := ⟨2, ![512, 128]⟩

abbrev nBuf : Space → Nat
  | .hbm => 52
  | .vmem => 16
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S1x2048, .f32⟩
  | .hbm, ⟨3, _⟩ => ⟨S2048x1344, .f32⟩
  | .hbm, ⟨4, _⟩ => ⟨S1x768, .f32⟩
  | .hbm, ⟨5, _⟩ => ⟨S768x1536, .f32⟩
  | .hbm, ⟨6, _⟩ => ⟨S1x512, .f32⟩
  | .hbm, ⟨7, _⟩ => ⟨S512x2048, .f32⟩
  | .hbm, ⟨8, _⟩ => ⟨S_, .f32⟩
  | .hbm, ⟨9, _⟩ => ⟨S2048x64, .f32⟩
  | .hbm, ⟨10, _⟩ => ⟨S2048x1408, .f32⟩
  | .hbm, ⟨11, _⟩ => ⟨S2048x1408, .bf16⟩
  | .hbm, ⟨12, _⟩ => ⟨S768x8x192, .f32⟩
  | .hbm, ⟨13, _⟩ => ⟨S_, .i32⟩
  | .hbm, ⟨14, _⟩ => ⟨S_, .f32⟩
  | .hbm, ⟨15, _⟩ => ⟨S768x8x256, .f32⟩
  | .hbm, ⟨16, _⟩ => ⟨S768x2048, .f32⟩
  | .hbm, ⟨17, _⟩ => ⟨S768x2048, .bf16⟩
  | .hbm, ⟨18, _⟩ => ⟨S512x8x256, .f32⟩
  | .hbm, ⟨19, _⟩ => ⟨S512x8x128, .f32⟩
  | .hbm, ⟨20, _⟩ => ⟨S512x1024, .f32⟩
  | .hbm, ⟨21, _⟩ => ⟨S512x8x128, .f32⟩
  | .hbm, ⟨22, _⟩ => ⟨S512x1024, .f32⟩
  | .hbm, ⟨23, _⟩ => ⟨S512x2048, .f32⟩
  | .hbm, ⟨24, _⟩ => ⟨S512x2048, .bf16⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S32768, .f32⟩
  | .hbm, ⟨34, _⟩ => ⟨S32768x1, .f32⟩
  | .hbm, ⟨35, _⟩ => ⟨S1x32, .f32⟩
  | .hbm, ⟨36, _⟩ => ⟨S32768x32, .f32⟩
  | .hbm, ⟨37, _⟩ => ⟨S32768x32, .f32⟩
  | .hbm, ⟨38, _⟩ => ⟨S32768x32, .f32⟩
  | .hbm, ⟨39, _⟩ => ⟨S32768x32, .f32⟩
  | .hbm, ⟨40, _⟩ => ⟨S32768x32, .f32⟩
  | .hbm, ⟨41, _⟩ => ⟨S_, .f32⟩
  | .hbm, ⟨42, _⟩ => ⟨S32768x64, .f32⟩
  | .hbm, ⟨43, _⟩ => ⟨S_, .f32⟩
  | .hbm, ⟨44, _⟩ => ⟨S32768x32, .f32⟩
  | .hbm, ⟨45, _⟩ => ⟨S_, .f32⟩
  | .hbm, ⟨46, _⟩ => ⟨S32768x64, .f32⟩
  | .hbm, ⟨47, _⟩ => ⟨S32768x32, .f32⟩
  | .hbm, ⟨48, _⟩ => ⟨S32768x384, .f32⟩
  | .hbm, ⟨49, _⟩ => ⟨S32768x2048, .bf16⟩
  | .hbm, ⟨50, _⟩ => ⟨S32768x2048, .bf16⟩
  | .hbm, ⟨51, _⟩ => ⟨S32768x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1408, .bf16⟩
  | .local _ .vmem, ⟨4, _⟩ => ⟨S1x768, .f32⟩
  | .local _ .vmem, ⟨5, _⟩ => ⟨S768x2048, .bf16⟩
  | .local _ .vmem, ⟨6, _⟩ => ⟨S1x512, .f32⟩
  | .local _ .vmem, ⟨7, _⟩ => ⟨S512x2048, .bf16⟩
  | .local _ .vmem, ⟨8, _⟩ => ⟨S512x384, .f32⟩
  | .local _ .vmem, ⟨9, _⟩ => ⟨S512x384, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Proof.MlaBlock.lean ====
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Block

open Cert.Kernel2Ideal Cert.Kernel2Ideal.Gen
open Idealize.ShloMosaic Idealize.ShloMosaic.TcCoe Idealize.ShloMosaic.Tactic Idealize.SL.Sem

/-- The rows `512 n …` of a key or value matrix. -/
def rows {w : ℕ} (x : Vec Ideal ⟨2, ![16384, w]⟩ .bf16) (n : ℕ) : Vec Ideal ⟨2, ![512, w]⟩ .bf16 := fun j =>
  x (ix2 ⟨(512 * n + (j 0).val) % 16384, Nat.mod_lt _ (by decide)⟩ (j 1))

theorem ld_rows {w : ℕ} (x : Vec Ideal ⟨2, ![16384, w]⟩ .bf16) (n : ℕ) (off : Fin 2 → ℕ) (inb)
    (h : off = ![512 * n, 0]) :
    View.ld x (Rect.unit (s := ⟨2, ![16384, w]⟩) off ![512, w] inb) = rows x n := by
  subst h
  funext j
  refine View.ld_unit_apply_of x _ _ inb j _ fun a => ?_
  have h0 : 512 * n + 512 ≤ 16384 := inb 0
  have hj : (j 0).val < 512 := (j 0).isLt
  match a with
  | ⟨0, _⟩ => exact Nat.mod_eq_of_lt (by omega)
  | ⟨1, _⟩ => exact (Nat.zero_add _).symm

/-- The state the loop carries: running maximum, running sum, running weighted values. -/
abbrev St := FVec Ideal S512x1 .f32 × FVec Ideal S512x1 .f32 × FVec Ideal S512x128 .f32

/-- One key block folded into the state. -/
def step (x0 : Vec Ideal S512x256 .bf16) (kb : Vec Ideal S512x256 .bf16) (vb : Vec Ideal S512x128 .bf16) (a : St) : St :=
  (k0_pay19 x0 a.1 kb, k0_pay22 x0 a.1 a.2.1 kb, k0_pay23 x0 a.1 a.2.2 kb vb)

/-- The diagonal block's state, from which the loop starts. -/
def start (x0 : Vec Ideal S512x256 .bf16) (kb : Vec Ideal S512x256 .bf16) (vb : Vec Ideal S512x128 .bf16) : St :=
  (k0_pay13 x0 k0_pay8 (iota .tc S512x512 32 [1] iota_S512x512_d1_w32) 64#32 k0_pay9 k0_pay10 kb,
    k0_pay16 x0 k0_pay8 (iota .tc S512x512 32 [1] iota_S512x512_d1_w32) 64#32 k0_pay9 k0_pay10 kb,
    k0_pay17 x0 k0_pay8 (iota .tc S512x512 32 [1] iota_S512x512_d1_w32) 64#32 k0_pay9 k0_pay10 kb vb)

/-- The state after `n` full blocks. -/
def state (x0 : Vec Ideal S512x256 .bf16) (x1 : Vec Ideal S16384x256 .bf16) (x2 : Vec Ideal S16384x128 .bf16) (i : ℕ) :
    ℕ → St
  | 0 => start x0 (rows x1 i) (rows x2 i)
  | n + 1 => step x0 (rows x1 n) (rows x2 n) (state x0 x1 x2 i n)

section
variable (c : Dev nD) (i : grid0.Coords) (arg3 : Memref sig .tc .vmem S512x256 .bf16) (harg3 : arg3.IsWhole)
    (arg4 : Memref sig .tc .vmem S16384x256 .bf16) (harg4 : arg4.IsWhole)
    (arg5 : Memref sig .tc .vmem S16384x128 .bf16) (harg5 : arg5.IsWhole)
    (arg6 : Memref sig .tc .vmem S512x128 .bf16) (harg6 : arg6.IsWhole)
    (x0 : Vec Ideal S512x256 .bf16) (x1 : Vec Ideal S16384x256 .bf16) (x2 : Vec Ideal S16384x128 .bf16)

/-- One trip of the loop is one step. -/
theorem tripR (arg2 v25 v26 c64 v28 v42) (k) (acc) :
    tripR_k0_t1 (F := Ideal) Variants.none c none i arg3 harg3 arg4 harg4 arg5 harg5 arg6 harg6 arg2 x0 v25 v26 c64 v28 v42
      (harg4.unread x1) (harg5.unread x2) k acc = step x0 (rows x1 k.val) (rows x2 k.val) acc := by
  unfold tripR_k0_t1 trip_k0_t1
  dsimp only
  sl_unfold_words
  simp only [View.readAt_eq_ld, harg4.read_unread, harg5.read_unread]
  exact congrArg₂ (fun a b => step x0 a b acc) (ld_rows x1 k.val _ (k0_off3_inb i k) (k0_off3_eq i k))
    (ld_rows x2 k.val _ (k0_off4_inb i k) (k0_off4_eq i k))

/-- The loop's state before trip `n` is the state after `n` blocks. -/
theorem st_eq (arg2 v25 v26 c64 v28 v42) (n : ℕ) (hn : n ≤ (k0_t1_loop i).trips) :
    st_k0_t1 (F := Ideal) Variants.none c none i arg3 harg3 arg4 harg4 arg5 harg5 arg6 harg6 arg2 x0 v25 v26 c64 v28 v42
      (harg4.unread x1) (harg5.unread x2) (start x0 (rows x1 (i 2).val) (rows x2 (i 2).val)) n
      = state x0 x1 x2 (i 2).val n := by
  induction n with
  | zero => rfl
  | succ n ih =>
    rw [st_k0_t1_succ Variants.none c none i arg3 harg3 arg4 harg4 arg5 harg5 arg6 harg6 arg2 x0 v25 v26 c64 v28 v42
      (harg4.unread x1) (harg5.unread x2) _ ⟨n, hn⟩, tripR]
    exact congrArg _ (ih (Nat.le_of_succ_le hn))

theorem trips : ∀ i : Fin 32, Scf.trips 0#32 (Scalar.addi 0#32 (Scalar.muli (Scalar.divsi (Scalar.subi
    (BitVec.ofNat 32 i.val) 0#32) 1#32) 1#32)) 1#32 = i.val := by decide +kernel

theorem trips' : ∀ i : Fin 32, Scf.trips (Scalar.addi 0#32 (Scalar.muli (Scalar.divsi (Scalar.subi
    (BitVec.ofNat 32 i.val) 0#32) 1#32) 1#32)) (Scalar.addi 0#32 (Scalar.subi (BitVec.ofNat 32 i.val) 0#32)) 1#32 = 0 := by
  decide +kernel

/-- What a grid point leaves in its output block: the quotient after the blocks before the diagonal. -/
theorem out : out0_A_3 c i arg3 harg3 arg4 harg4 arg5 harg5 arg6 harg6 x0 x1 x2
      = k0_pay7 (state x0 x1 x2 (i 2).val (i 2).val).2.1 (state x0 x1 x2 (i 2).val (i 2).val).2.2 := by
  unfold out0_A_3
  refine (View.read_writes_eq_canon _ _ _ (cover0_A_3 c i arg3 harg3 arg4 harg4 arg5 harg5 arg6 harg6 x0 x1 x2)).trans ?_
  unfold kernelRun0_A
  dsimp only
  sl_unfold_words
  simp only [View.readAt_eq_ld, harg3.read_unread, harg4.read_unread, harg5.read_unread]
  rw [trips' (i 2), trips (i 2), st_k0_t2_zero]
  have hz : (![0, 0] : Fin 2 → ℕ) = fun _ => 0 := by funext a; fin_cases a <;> rfl
  refine (View.canon_unit_zero (S := S512x128) hz _ _).trans ?_
  have e0 : View.ld x0 (Rect.unit ![0, 0] ![512, 256] inb_S512x256_S512x256_0_0) = x0 :=
    View.ld_unit_zero (S := S512x256) hz _ x0
  have e1 := ld_rows x1 (i 2).val (k0_off1 i) (k0_off1_inb i) (k0_off1_eq i)
  have e2 := ld_rows x2 (i 2).val (k0_off2 i) (k0_off2_inb i) (k0_off2_eq i)
  have key := st_eq c i arg3 harg3 arg4 harg4 arg5 harg5 arg6 harg6 x0 x1 x2 (BitVec.ofNat 32 (i 2).val) k0_pay8
    (iota .tc S512x512 32 [1] iota_S512x512_d1_w32) 64#32 k0_pay9 k0_pay10 (i 2).val (trips (i 2)).ge
  rw [← key]
  unfold start
  rw [← e1, ← e2, e0]
  rfl
end

end Cert.Kernel2Ideal.Block
-- ==== Proof.MlaStep.lean ====
/- One key block of the latent attention, entry by entry: the running maximum, the running weight sum and the running
   weighted values after the block, and what the diagonal block leaves them at. -/
module

public import proofs.«01_k».proof.Proof.MlaBlock

@[expose] public section

set_option maxRecDepth 16384

noncomputable section

namespace Cert.Kernel2Ideal.Block

open Cert.Kernel2Ideal Cert.Kernel2Ideal.Gen
open Idealize.ShloMosaic Idealize.ShloMosaic.TcCoe Idealize.ShloMosaic.Tactic Idealize.SL.Sem

/-- The pattern of minus infinity denotes `⊥`. -/
theorem neg_inf : Ideal.ofBits FTy.f32 4286578688#32 = ⊥ := by simp [Ideal.ofBits, Ideal.ieee]

theorem bot_max (x : EReal) : max ⊥ x = x := max_eq_right bot_le

/-- The named mask constant is `⊥`. -/
theorem named_mask : (Named.named κ "mask" (φ := .f32) 4048155338#32 : Ideal .f32) = ⊥ :=
  IdealRules.named_const.ideal_named_scalar _ _ _ _ rfl

section step
variable (x0 kb : Vec Ideal S512x256 .bf16) (vb : Vec Ideal S512x128 .bf16)

/-- The score of row `r` against row `k` of a key block. -/
def score (r k : Fin 512) : EReal := ∑ e : Fin 256, x0 (ix2 r e) * kb (ix2 k e)

set_option backward.isDefEq.respectTransparency false in
theorem step_max (a : St) (r : Fin 512) :
    (step x0 kb vb a).1 (ix2 r 0) = max (a.1 (ix2 r 0)) (Finset.univ.fold max ⊥ (score x0 kb r)) := by
  unfold step
  pointwise [k0_pay19, k0_pay18]
  rw [neg_inf]; rfl

set_option backward.isDefEq.respectTransparency false in
theorem step_sum (a : St) (r : Fin 512) :
    (step x0 kb vb a).2.1 (ix2 r 0)
      = Ideal.exp (a.1 (ix2 r 0) - (step x0 kb vb a).1 (ix2 r 0)) * a.2.1 (ix2 r 0)
        + ∑ k, Ideal.exp (score x0 kb r k - (step x0 kb vb a).1 (ix2 r 0)) := by
  rw [step_max]
  unfold step
  pointwise [k0_pay19, k0_pay18, k0_pay22, k0_pay20, k0_pay21]
  rw [neg_inf]; rfl

set_option backward.isDefEq.respectTransparency false in
theorem step_acc (a : St) (r : Fin 512) (d : Fin 128) :
    (step x0 kb vb a).2.2 (ix2 r d)
      = Ideal.exp (a.1 (ix2 r 0) - (step x0 kb vb a).1 (ix2 r 0)) * a.2.2 (ix2 r d)
        + ∑ k, Ideal.exp (score x0 kb r k - (step x0 kb vb a).1 (ix2 r 0)) * vb (ix2 k d) := by
  rw [step_max]
  unfold step
  pointwise [k0_pay19, k0_pay18, k0_pay23, k0_pay20, k0_pay21]
  rw [neg_inf]; rfl

/-- The chunk of a position, as the kernel computes it in words. -/
def chunkWord (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

theorem chunkWord_eq : ∀ r : Fin 512, chunkWord r.val = BitVec.ofNat 32 (r.val / 64) := by decide +kernel

theorem chunk_le : ∀ a b : Fin 8, IntOp.cmpi .sle (BitVec.ofNat 32 a.val) (BitVec.ofNat 32 b.val)
    = if a.val ≤ b.val then 1#1 else 0#1 := by decide +kernel

/-- The score on the diagonal: `⊥` where the key's chunk lies after the query's. -/
def dscore (r k : Fin 512) : EReal := if k.val / 64 ≤ r.val / 64 then score x0 kb r k else ⊥

set_option backward.isDefEq.respectTransparency false in
theorem masked (r k : Fin 512) :
    k0_pay12 x0 k0_pay8 (iota .tc S512x512 32 [1] iota_S512x512_d1_w32) 64#32 k0_pay9 k0_pay10 kb (ix2 r k)
      = dscore x0 kb r k := by
  pointwise [k0_pay12, k0_pay8, k0_pay9, k0_pay10]
  rw [named_mask]
  have h := chunk_le ⟨k.val / 64, by omega⟩ ⟨r.val / 64, by omega⟩
  dsimp only at h
  rw [← chunkWord_eq, ← chunkWord_eq] at h
  show Scalar.select (IntOp.cmpi .sle (chunkWord k.val) (chunkWord r.val)) _ _ = _
  rw [h]
  unfold dscore Scalar.select
  by_cases hk : k.val / 64 ≤ r.val / 64
  · rw [if_pos hk, if_pos hk]; exact if_pos rfl
  · rw [if_neg hk, if_neg hk]; exact if_neg (by decide)

set_option backward.isDefEq.respectTransparency false in
theorem pay11_bot (r : Fin 512) : (k0_pay11 : FVec Ideal S512x1 .f32) (ix2 r 0) = ⊥ := by
  pointwise [k0_pay11]
  exact named_mask

set_option backward.isDefEq.respectTransparency false in
theorem start_max (r : Fin 512) : (start x0 kb vb).1 (ix2 r 0) = Finset.univ.fold max ⊥ (dscore x0 kb r) := by
  unfold start
  pointwise [k0_pay13]
  simp only [neg_inf, pay11_bot]
  exact (bot_max _).trans (congrArg (Finset.univ.fold max ⊥) (funext (masked x0 kb r)))

set_option backward.isDefEq.respectTransparency false in
theorem start_sum (r : Fin 512) :
    (start x0 kb vb).2.1 (ix2 r 0) = ∑ k, Ideal.exp (dscore x0 kb r k - (start x0 kb vb).1 (ix2 r 0)) := by
  rw [start_max]
  unfold start
  pointwise [k0_pay16, k0_pay13, k0_pay14, k0_pay15]
  simp only [neg_inf, pay11_bot, mul_zero, zero_add, bot_max]
  exact Finset.sum_congr rfl fun k _ => congrArg₂ (fun a f => Ideal.exp (a - Finset.univ.fold max ⊥ f))
    (masked x0 kb r k) (funext (masked x0 kb r))

set_option backward.isDefEq.respectTransparency false in
theorem start_acc (r : Fin 512) (d : Fin 128) :
    (start x0 kb vb).2.2 (ix2 r d)
      = ∑ k, Ideal.exp (dscore x0 kb r k - (start x0 kb vb).1 (ix2 r 0)) * vb (ix2 k d) := by
  rw [start_max]
  unfold start
  pointwise [k0_pay17, k0_pay13, k0_pay14, k0_pay15]
  simp only [neg_inf, pay11_bot, mul_zero, zero_add, bot_max]
  exact Finset.sum_congr rfl fun k _ => congrArg₂ (fun a f => Ideal.exp (a - Finset.univ.fold max ⊥ f) * vb (ix2 k d))
    (masked x0 kb r k) (funext (masked x0 kb r))

set_option backward.isDefEq.respectTransparency false in
theorem quot (l : FVec Ideal S512x1 .f32) (a : FVec Ideal S512x128 .f32) (r : Fin 512) (d : Fin 128) :
    k0_pay7 l a (ix2 r d) = Ideal.div (a (ix2 r d)) (l (ix2 r 0)) := by
  pointwise [k0_pay7]
end step

end Cert.Kernel2Ideal.Block
-- ==== Proof.Softmax.lean ====
/- The mathematics of the running softmax over the extended reals: a sum of exponentials weighted by extended reals
   rescales exactly from one real shift to another, so a softmax accumulated block by block with a running maximum is
   the softmax taken in one pass. -/
module

public import Idealize.ShloMosaic.PureOps.Ideal

@[expose] public section

noncomputable section

namespace Cert.Softmax

open Idealize.ShloMosaic

/-- The exponential of a real. -/
theorem exp_coe (r : ℝ) : Ideal.exp (r : EReal) = ((Real.exp r : ℝ) : EReal) := rfl

/-- Below `⊤` the shifted exponential is a nonnegative real. -/
theorem exp_sub_real {x : EReal} (hx : x ≠ ⊤) (M : ℝ) : ∃ r : ℝ, 0 ≤ r ∧ Ideal.exp (x - M) = (r : EReal) := by
  induction x using EReal.rec with
  | bot => exact ⟨0, le_rfl, by rw [EReal.bot_sub]; rfl⟩
  | coe x => exact ⟨Real.exp (x - M), (Real.exp_pos _).le, by rw [← EReal.coe_sub]; rfl⟩
  | top => exact absurd rfl hx

/-- Moving the shift from `M` to `M'` multiplies the exponential by `exp (M - M')`. -/
theorem exp_shift {x : EReal} (hx : x ≠ ⊤) (M M' : ℝ) :
    ((Real.exp (M - M') : ℝ) : EReal) * Ideal.exp (x - M) = Ideal.exp (x - M') := by
  induction x using EReal.rec with
  | bot => rw [EReal.bot_sub, EReal.bot_sub]; exact mul_zero _
  | coe x =>
    rw [← EReal.coe_sub, ← EReal.coe_sub, exp_coe, exp_coe, ← EReal.coe_mul, ← Real.exp_add]
    congr 2; ring
  | top => exact absurd rfl hx

/-- A nonnegative real factor goes into a sum of extended reals. -/
theorem mul_sum_real {ι : Type*} (A : Finset ι) {c : ℝ} (hc : 0 ≤ c) (f : ι → EReal) :
    (c : EReal) * ∑ a ∈ A, f a = ∑ a ∈ A, (c : EReal) * f a := by
  classical
  induction A using Finset.induction_on with
  | empty => simp
  | insert a A ha ih =>
    rw [Finset.sum_insert ha, Finset.sum_insert ha,
      EReal.left_distrib_of_nonneg_of_ne_top (EReal.coe_nonneg.2 hc) (EReal.coe_ne_top c), ih]

/-- A function of the shift that rescales exactly from one shift to another. -/
def Scales (W : ℝ → EReal) : Prop := ∀ M M' : ℝ, ((Real.exp (M - M') : ℝ) : EReal) * W M = W M'

theorem Scales.sum {ι : Type*} (A : Finset ι) {W : ι → ℝ → EReal} (h : ∀ a, Scales (W a)) :
    Scales fun M => ∑ a ∈ A, W a M := fun M M' => by
  rw [mul_sum_real A (Real.exp_pos _).le]
  exact Finset.sum_congr rfl fun a _ => h a M M'

theorem Scales.add {V W : ℝ → EReal} (hV : Scales V) (hW : Scales W) : Scales fun M => V M + W M := fun M M' => by
  rw [EReal.left_distrib_of_nonneg_of_ne_top (EReal.coe_nonneg.2 (Real.exp_pos _).le) (EReal.coe_ne_top _), hV, hW]

theorem scales_term {x : EReal} (hx : x ≠ ⊤) (v : EReal) : Scales fun M => Ideal.exp (x - M) * v := fun M M' => by
  rw [← mul_assoc, exp_shift hx]

theorem scales_exp {x : EReal} (hx : x ≠ ⊤) : Scales fun M => Ideal.exp (x - M) := fun M M' => exp_shift hx M M'

/-- The maximum of scores below `⊤` is below `⊤`. -/
theorem fold_ne_top {ι : Type*} (A : Finset ι) {s : ι → EReal} (hs : ∀ a, s a ≠ ⊤) :
    A.fold max ⊥ s ≠ ⊤ := by
  classical
  induction A using Finset.induction_on with
  | empty => simp
  | insert a A ha ih => rw [Finset.fold_insert ha]; exact (max_lt (lt_top_iff_ne_top.2 (hs a)) (lt_top_iff_ne_top.2 ih)).ne

theorem le_fold {ι : Type*} {A : Finset ι} {s : ι → EReal} {a : ι} (ha : a ∈ A) : s a ≤ A.fold max ⊥ s :=
  Finset.le_fold_max _ |>.2 (Or.inr ⟨a, ha, le_rfl⟩)

/-- The maximum of scores below `⊤`, one of them real, is real. -/
theorem fold_real {ι : Type*} [Fintype ι] {s : ι → EReal} (hs : ∀ a, s a ≠ ⊤) {a : ι} (ha : s a ≠ ⊥) :
    ∃ M : ℝ, Finset.univ.fold max ⊥ s = (M : EReal) := by
  refine ⟨(Finset.univ.fold max ⊥ s).toReal, (EReal.coe_toReal (fold_ne_top _ hs) fun h => ha ?_).symm⟩
  exact le_bot_iff.1 (h ▸ le_fold (Finset.mem_univ a))

/-- The maximum of a real and of scores below `⊤` is real. -/
theorem max_fold_real {ι : Type*} [Fintype ι] {s : ι → EReal} (hs : ∀ a, s a ≠ ⊤) (M : ℝ) :
    ∃ M' : ℝ, max (M : EReal) (Finset.univ.fold max ⊥ s) = (M' : EReal) := by
  refine ⟨(max (M : EReal) (Finset.univ.fold max ⊥ s)).toReal, (EReal.coe_toReal ?_ ?_).symm⟩
  · exact (max_lt (EReal.coe_lt_top M) (lt_top_iff_ne_top.2 (fold_ne_top _ hs))).ne
  · exact ((EReal.bot_lt_coe M).trans_le (le_max_left _ _)).ne'

/-- The factor by which a running sum is rescaled. -/
theorem exp_coe_sub (M M' : ℝ) : Ideal.exp ((M : EReal) - (M' : EReal)) = ((Real.exp (M - M') : ℝ) : EReal) := by
  rw [← EReal.coe_sub]; rfl

/-- The softmax of the scores `s`, weighing the values `v`: what attention gives one query and one value column. -/
def attn {ι : Type*} [Fintype ι] (s v : ι → EReal) : EReal :=
  ∑ k, v k * Ideal.div (Ideal.exp (s k - Finset.univ.fold max ⊥ s))
    (∑ l, Ideal.exp (s l - Finset.univ.fold max ⊥ s))

/-- A sum of reals, taken in the extended reals. -/
theorem sum_coe {ι : Type*} (A : Finset ι) (r : ι → ℝ) : ((∑ k ∈ A, r k : ℝ) : EReal) = ∑ k ∈ A, (r k : EReal) :=
  map_sum (⟨⟨Real.toEReal, EReal.coe_zero⟩, EReal.coe_add⟩ : ℝ →+ EReal) r A

/-- The sum of the exponentials, where one score is real, is a positive real. -/
theorem sum_exp_pos {ι : Type*} [Fintype ι] {s : ι → EReal} (hs : ∀ a, s a ≠ ⊤) {a : ι} (ha : s a ≠ ⊥) (M : ℝ) :
    ∃ L : ℝ, 0 < L ∧ ∑ k, Ideal.exp (s k - M) = (L : EReal) := by
  choose r hr0 hr using fun k => exp_sub_real (hs k) M
  have hpos : 0 < r a := by
    refine (hr0 a).lt_of_ne fun h => ?_
    have := hr a
    rw [← h] at this
    lift s a to ℝ using ⟨hs a, ha⟩ with x
    rw [exp_coe_sub] at this
    exact (Real.exp_pos _).ne' (EReal.coe_injective this)
  refine ⟨∑ k, r k, Finset.sum_pos' (fun k _ => hr0 k) ⟨a, Finset.mem_univ a, hpos⟩, ?_⟩
  rw [Finset.sum_congr rfl fun k _ => hr k]
  exact (sum_coe _ r).symm

/-- The quotient of the weighted sum by the sum of the weights, both taken at ANY real shift, is the softmax. -/
theorem div_eq_attn {ι : Type*} [Fintype ι] {s : ι → EReal} (v : ι → EReal) (hs : ∀ a, s a ≠ ⊤) {a : ι} (ha : s a ≠ ⊥)
    (M : ℝ) :
    Ideal.div (∑ k, Ideal.exp (s k - M) * v k) (∑ k, Ideal.exp (s k - M)) = attn s v := by
  obtain ⟨M', hM'⟩ := fold_real hs ha
  obtain ⟨L, hL, eL⟩ := sum_exp_pos hs ha M
  have hW : Scales fun M => ∑ k, Ideal.exp (s k - M) * v k := Scales.sum _ fun k => scales_term (hs k) (v k)
  have hw : Scales fun M => ∑ k, Ideal.exp (s k - M) := Scales.sum _ fun k => scales_exp (hs k)
  have e1 := hW M M'
  have e2 := hw M M'
  dsimp only at e1 e2
  unfold attn
  rw [hM', ← e2, eL, ← EReal.coe_mul]
  set e := Real.exp (M - M') with he
  have hepos : 0 < e := Real.exp_pos _
  have ne : ((e * L : ℝ) : EReal) ≠ 0 := fun h => (mul_pos hepos hL).ne' (EReal.coe_injective h)
  have nL : (L : EReal) ≠ 0 := fun h => hL.ne' (EReal.coe_injective h)
  have conv : ∀ k, v k * Ideal.div (Ideal.exp (s k - M')) ((e * L : ℝ) : EReal)
      = (((e * L)⁻¹ : ℝ) : EReal) * (Ideal.exp (s k - M') * v k) := fun k => by
    rw [Ideal.div, if_neg ne, ← EReal.coe_inv]
    ac_rfl
  rw [Finset.sum_congr rfl fun k _ => conv k, ← mul_sum_real _ (inv_nonneg.2 (mul_pos hepos hL).le), ← e1, Ideal.div,
    if_neg nL, ← EReal.coe_inv, ← mul_assoc, ← EReal.coe_mul, mul_comm]
  congr 2
  field_simp

end Cert.Softmax
-- ==== Proof.MlaRow.lean ====
/- What one grid point of the latent attention computes, row by row: the running softmax over the diagonal block and the
   blocks before it is the softmax over all keys, with the keys a query may not see at `⊥`. -/
module

public import proofs.«01_k».proof.Proof.MlaStep
public import proofs.«01_k».proof.Proof.Softmax

@[expose] public section

set_option maxRecDepth 16384

noncomputable section

namespace Cert.Kernel2Ideal.Block

open Cert.Kernel2Ideal Cert.Kernel2Ideal.Gen Cert.Softmax
open Idealize.ShloMosaic Idealize.ShloMosaic.TcCoe Idealize.ShloMosaic.Tactic Idealize.SL.Sem

section state
variable (x0 : Vec Ideal S512x256 .bf16) (x1 : Vec Ideal S16384x256 .bf16) (x2 : Vec Ideal S16384x128 .bf16) (i : ℕ)
  (r : Fin 512)

/-- The weight sum over the diagonal block and the first `n` blocks, at the shift `M`. -/
def wl (n : ℕ) (M : ℝ) : EReal :=
  ∑ k, Ideal.exp (dscore x0 (rows x1 i) r k - M)
    + ∑ j ∈ Finset.range n, ∑ k, Ideal.exp (score x0 (rows x1 j) r k - M)

/-- The same with each weight times its key's value in column `d`. -/
def wa (d : Fin 128) (n : ℕ) (M : ℝ) : EReal :=
  ∑ k, Ideal.exp (dscore x0 (rows x1 i) r k - M) * rows x2 i (ix2 k d)
    + ∑ j ∈ Finset.range n, ∑ k, Ideal.exp (score x0 (rows x1 j) r k - M) * rows x2 j (ix2 k d)

variable (hs : ∀ j k, score x0 (rows x1 j) r k ≠ ⊤) (hb : score x0 (rows x1 i) r r ≠ ⊥)

include hs in
theorem dscore_ne_top (k : Fin 512) : dscore x0 (rows x1 i) r k ≠ ⊤ := by
  unfold dscore
  split
  · exact hs i k
  · exact bot_ne_top

include hs hb in
/-- After `n` blocks the state holds the weight sums at one real shift. -/
theorem state_eq (n : ℕ) : ∃ M : ℝ, (state x0 x1 x2 i n).1 (ix2 r 0) = (M : EReal)
    ∧ (state x0 x1 x2 i n).2.1 (ix2 r 0) = wl x0 x1 i r n M
    ∧ ∀ d, (state x0 x1 x2 i n).2.2 (ix2 r d) = wa x0 x1 x2 i r d n M := by
  have hd := dscore_ne_top x0 x1 i r hs
  induction n with
  | zero =>
    have hr : dscore x0 (rows x1 i) r r ≠ ⊥ := by unfold dscore; rw [if_pos le_rfl]; exact hb
    obtain ⟨M, hM⟩ := fold_real hd hr
    have e := (start_max x0 (rows x1 i) (rows x2 i) r).trans hM
    refine ⟨M, e, ?_, fun d => ?_⟩
    · show (start x0 (rows x1 i) (rows x2 i)).2.1 (ix2 r 0) = _
      rw [start_sum, e]; unfold wl; rw [Finset.sum_range_zero, add_zero]
    · show (start x0 (rows x1 i) (rows x2 i)).2.2 (ix2 r d) = _
      rw [start_acc, e]; unfold wa; rw [Finset.sum_range_zero, add_zero]
  | succ n ih =>
    obtain ⟨M, eM, eL, eA⟩ := ih
    obtain ⟨M', hM'⟩ := max_fold_real (hs n) M
    have e : (step x0 (rows x1 n) (rows x2 n) (state x0 x1 x2 i n)).1 (ix2 r 0) = (M' : EReal) := by
      rw [step_max, eM]; exact hM'
    refine ⟨M', e, ?_, fun d => ?_⟩
    · have sc : Scales (wl x0 x1 i r n) :=
        (Scales.sum _ fun k => scales_exp (hd k)).add (Scales.sum _ fun j => Scales.sum _ fun k => scales_exp (hs j k))
      show (step x0 (rows x1 n) (rows x2 n) (state x0 x1 x2 i n)).2.1 (ix2 r 0) = _
      rw [step_sum, e, eM, eL, exp_coe_sub, sc]
      unfold wl
      rw [Finset.sum_range_succ, add_assoc]
    · have sc : Scales (wa x0 x1 x2 i r d n) :=
        (Scales.sum _ fun k => scales_term (hd k) _).add
          (Scales.sum _ fun j => Scales.sum _ fun k => scales_term (hs j k) _)
      show (step x0 (rows x1 n) (rows x2 n) (state x0 x1 x2 i n)).2.2 (ix2 r d) = _
      rw [step_acc, e, eM, eA, exp_coe_sub, sc]
      unfold wa
      rw [Finset.sum_range_succ, add_assoc]
end state

/-- A sum over all keys that vanishes after block `i` is the sum over block `i` and the blocks before it. -/
theorem sum_upto (f : Fin 16384 → EReal) (i : Fin 32) (h0 : ∀ κ, 512 * (i.val + 1) ≤ κ.val → f κ = 0) :
    ∑ κ, f κ = ∑ k : Fin 512, f ⟨512 * i.val + k.val, by omega⟩
      + ∑ j ∈ Finset.range i.val, ∑ k : Fin 512, f ⟨(512 * j + k.val) % 16384, Nat.mod_lt _ (by decide)⟩ := by
  rw [Fin.sum_univ_tiles 32 512 rfl f]
  have e : ∀ j : Fin 32, (∑ t : Fin 512, f ⟨j.val * 512 + t.val, by omega⟩)
      = (fun n : ℕ => ∑ k : Fin 512, f ⟨(512 * n + k.val) % 16384, Nat.mod_lt _ (by decide)⟩) j.val := fun j =>
    Finset.sum_congr rfl fun t _ => congrArg f (Fin.ext (by
      show j.val * 512 + t.val = (512 * j.val + t.val) % 16384
      rw [Nat.mod_eq_of_lt (by omega)]; omega))
  refine (Finset.sum_congr rfl fun j _ => e j).trans ?_
  refine (Fin.sum_univ_eq_sum_range (fun n : ℕ => ∑ k : Fin 512, f ⟨(512 * n + k.val) % 16384, Nat.mod_lt _ (by decide)⟩)
    32).trans ?_
  have hsub : Finset.range (i.val + 1) ⊆ Finset.range 32 := Finset.range_subset_range.2 (by omega)
  rw [← Finset.sum_subset hsub fun n hn hn' => ?_, Finset.sum_range_succ, add_comm]
  · congr 1
    exact Finset.sum_congr rfl fun k _ => congrArg f (Fin.ext (Nat.mod_eq_of_lt (by omega)))
  · rw [Finset.mem_range] at hn hn'
    refine Finset.sum_eq_zero fun k _ => h0 _ ?_
    show 512 * (i.val + 1) ≤ (512 * n + k.val) % 16384
    rw [Nat.mod_eq_of_lt (by omega)]; omega

section row
variable (x0 : Vec Ideal S512x256 .bf16) (x1 : Vec Ideal S16384x256 .bf16) (x2 : Vec Ideal S16384x128 .bf16) (i : Fin 32)
  (r : Fin 512)

/-- The scores of row `r` of query block `i` against all keys, `⊥` at the keys of later chunks. -/
def full (κ : Fin 16384) : EReal :=
  if κ.val / 64 ≤ (512 * i.val + r.val) / 64 then ∑ e : Fin 256, x0 (ix2 r e) * x1 (ix2 κ e) else ⊥

theorem full_diag (k : Fin 512) : full x0 x1 i r ⟨512 * i.val + k.val, by omega⟩ = dscore x0 (rows x1 i.val) r k := by
  unfold full dscore score rows
  dsimp only
  have e : (512 * i.val + k.val) % 16384 = 512 * i.val + k.val := Nat.mod_eq_of_lt (by omega)
  by_cases h : k.val / 64 ≤ r.val / 64
  · rw [if_pos (by omega), if_pos h]
    refine Finset.sum_congr rfl fun e' _ => ?_
    congr 2
    exact congrArg (fun a => ix2 a e') (Fin.ext e.symm)
  · rw [if_neg (by omega), if_neg h]

theorem full_before (j : ℕ) (hj : j < i.val) (k : Fin 512) :
    full x0 x1 i r ⟨(512 * j + k.val) % 16384, Nat.mod_lt _ (by decide)⟩ = score x0 (rows x1 j) r k := by
  unfold full score rows
  dsimp only
  have e : (512 * j + k.val) % 16384 = 512 * j + k.val := Nat.mod_eq_of_lt (by omega)
  rw [if_pos (by omega)]
  rfl

theorem full_after (κ : Fin 16384) (h : 512 * (i.val + 1) ≤ κ.val) : full x0 x1 i r κ = ⊥ :=
  if_neg (by omega)

/-- With real scores, what the grid point stores is the softmax over all keys. -/
theorem point_attn (d : Fin 128) (hs : ∀ κ : Fin 16384, ∃ z : ℝ, ∑ e : Fin 256, x0 (ix2 r e) * x1 (ix2 κ e) = (z : EReal)) :
    k0_pay7 (state x0 x1 x2 i.val i.val).2.1 (state x0 x1 x2 i.val i.val).2.2 (ix2 r d)
      = attn (full x0 x1 i r) (fun κ => x2 (ix2 κ d)) := by
  have h1 : ∀ j k, ∃ z : ℝ, score x0 (rows x1 j) r k = (z : EReal) := fun j k => hs _
  have hs' : ∀ j k, score x0 (rows x1 j) r k ≠ ⊤ := fun j k => by
    obtain ⟨z, hz⟩ := h1 j k; rw [hz]; exact EReal.coe_ne_top z
  have hb : score x0 (rows x1 i.val) r r ≠ ⊥ := by
    obtain ⟨z, hz⟩ := h1 i.val r; rw [hz]; exact EReal.coe_ne_bot z
  have ft : ∀ κ, full x0 x1 i r κ ≠ ⊤ := fun κ => by
    unfold full
    split
    · obtain ⟨z, hz⟩ := hs κ; rw [hz]; exact EReal.coe_ne_top z
    · exact bot_ne_top
  have fb : full x0 x1 i r ⟨512 * i.val + r.val, by omega⟩ ≠ ⊥ := by
    rw [full_diag]; unfold dscore; rw [if_pos le_rfl]; exact hb
  obtain ⟨M, -, eL, eA⟩ := state_eq x0 x1 x2 i.val r hs' hb i.val
  rw [quot, eL, eA d, ← div_eq_attn _ ft fb M]
  have z : ∀ κ : Fin 16384, 512 * (i.val + 1) ≤ κ.val → Ideal.exp (full x0 x1 i r κ - M) = 0 := fun κ h => by
    rw [full_after x0 x1 i r κ h, EReal.bot_sub]; rfl
  rw [sum_upto (fun κ => Ideal.exp (full x0 x1 i r κ - M)) i z,
    sum_upto (fun κ => Ideal.exp (full x0 x1 i r κ - M) * x2 (ix2 κ d)) i fun κ h => by rw [z κ h, zero_mul]]
  unfold wl wa
  refine congrArg₂ Ideal.div (congrArg₂ (· + ·) ?_ ?_) (congrArg₂ (· + ·) ?_ ?_)
  · refine Finset.sum_congr rfl fun k _ => ?_
    rw [full_diag]
    have e : (512 * i.val + k.val) % 16384 = 512 * i.val + k.val := Nat.mod_eq_of_lt (by omega)
    exact congrArg (fun a => _ * x2 (ix2 a d)) (Fin.ext e)
  · refine Finset.sum_congr rfl fun j hj => Finset.sum_congr rfl fun k _ => ?_
    rw [full_before x0 x1 i r j (Finset.mem_range.1 hj)]
    rfl
  · exact Finset.sum_congr rfl fun k _ => by rw [full_diag]
  · exact Finset.sum_congr rfl fun j hj => Finset.sum_congr rfl fun k _ => by
      rw [full_before x0 x1 i r j (Finset.mem_range.1 hj)]
end row

end Cert.Kernel2Ideal.Block
-- ==== Proof.Cells.lean ====
/- An entry of a matrix named by its row and column numbers, so that one entry reached along two ways of indexing is
   compared by arithmetic on those numbers. -/
module

public import Idealize.ShloMosaic.Lib.Pointwise

@[expose] public section

noncomputable section

namespace Cert.Cells

open Idealize.ShloMosaic

/-- The entry in row `r` and column `c`, the numbers taken modulo the extents. -/
def cell {α : Type} {n w : ℕ} [NeZero n] [NeZero w] (x : Shape.Idx ⟨2, ![n, w]⟩ → α) (r c : ℕ) : α :=
  x (ix2 (Fin.ofNat n r) (Fin.ofNat w c))

theorem eq_cell {α : Type} {n w : ℕ} [NeZero n] [NeZero w] (x : Shape.Idx ⟨2, ![n, w]⟩ → α) (j : Shape.Idx ⟨2, ![n, w]⟩)
    {r c : ℕ} (h0 : (j 0).val = r) (h1 : (j 1).val = c) : x j = cell x r c := by
  have l0 : (j 0).val < n := (j 0).isLt
  have l1 : (j 1).val < w := (j 1).isLt
  unfold cell
  congr 1
  funext a
  match a with
  | ⟨0, _⟩ => exact Fin.ext (by show (j 0).val = r % n; rw [← h0, Nat.mod_eq_of_lt l0])
  | ⟨1, _⟩ => exact Fin.ext (by show (j 1).val = c % w; rw [← h1, Nat.mod_eq_of_lt l1])

end Cert.Cells
-- ==== Proof.MlaArray.lean ====
/- The array the latent attention leaves: each entry is the softmax attention of its query, head and column, read from
   the call's three arguments. -/
module

public import proofs.«01_k».proof.Proof.MlaRow
public import proofs.«01_k».proof.Proof.Cells
public import Idealize.ShloMosaic.Lib.Pipeline.ValueKit

@[expose] public section

set_option maxRecDepth 16384

noncomputable section

namespace Cert.Kernel2Ideal.Block

open Cert.Kernel2Ideal Cert.Kernel2Ideal.Gen Cert.Softmax Cert.Cells
open Idealize.ShloMosaic Idealize.ShloMosaic.TcCoe Idealize.ShloMosaic.Tactic Idealize.SL.Sem

variable (m : (ℓ : Loc nD τ sig) → Buf (Elt Ideal) ℓ) (c : Dev nD)

/-- The three arguments. -/
abbrev q0 : S32768x2048.Idx → EReal := m ((c : Thread nD τ).loc main_arg0)
abbrev k0 : S32768x2048.Idx → EReal := m ((c : Thread nD τ).loc main_arg1)
abbrev v0 : S32768x1024.Idx → EReal := m ((c : Thread nD τ).loc main_arg2)

/-- The block indices of every point, and where it stands in the grid. -/
theorem idx : ∀ t : Fin cfg0.N, win0_0.index t = ![t.val / 256 * 32 + t.val % 32, t.val / 32 % 8]
    ∧ win0_1.index t = ![t.val / 256, t.val / 32 % 8] ∧ win0_2.index t = ![t.val / 256, t.val / 32 % 8]
    ∧ win0_3.index t = ![t.val / 256 * 32 + t.val % 32, t.val / 32 % 8]
    ∧ (grid0.coords t 2).val = t.val % 32 :=
  (by decide +kernel : ∀ t : Fin grid0.N, _)

theorem blkq (t : Fin cfg0.N) (r : Fin 512) (e : Fin 256) : iblk m c 0 t (ix2 r e)
    = cell (q0 m c) (t.val / 256 * 16384 + (512 * (t.val % 32) + r.val)) (t.val / 32 % 8 * 256 + e.val) := by
  obtain ⟨h, -⟩ := idx t
  refine Eq.trans ?_ (eq_cell (q0 m c) (((cfg0.win 0).blk t).view.emb (ix2 r e)) ?_ ?_)
  · blk_simp [iblk, V]
  · blk_simp [h]
    omega
  · blk_simp [h]

theorem blkk (t : Fin cfg0.N) (r : Fin 16384) (e : Fin 256) : iblk m c 1 t (ix2 r e)
    = cell (k0 m c) (t.val / 256 * 16384 + r.val) (t.val / 32 % 8 * 256 + e.val) := by
  obtain ⟨-, h, -⟩ := idx t
  refine Eq.trans ?_ (eq_cell (k0 m c) (((cfg0.win 1).blk t).view.emb (ix2 r e)) ?_ ?_)
  · blk_simp [iblk, V]
  · blk_simp [h]
  · blk_simp [h]

theorem blkv (t : Fin cfg0.N) (r : Fin 16384) (e : Fin 128) : iblk m c 2 t (ix2 r e)
    = cell (v0 m c) (t.val / 256 * 16384 + r.val) (t.val / 32 % 8 * 128 + e.val) := by
  obtain ⟨-, -, h, -⟩ := idx t
  refine Eq.trans ?_ (eq_cell (v0 m c) (((cfg0.win 2).blk t).view.emb (ix2 r e)) ?_ ?_)
  · blk_simp [iblk, V]
  · blk_simp [h]
  · blk_simp [h]

/-- The scores of query `q` of head `h` in batch `b`, `⊥` at the keys of later chunks. -/
def scores (q k : S32768x2048.Idx → EReal) (b h p : ℕ) (κ : Fin 16384) : EReal :=
  if κ.val / 64 ≤ p / 64 then
    ∑ e : Fin 256, cell q (b * 16384 + p) (h * 256 + e.val) * cell k (b * 16384 + κ.val) (h * 256 + e.val)
  else ⊥

/-- The attention of every query, head and column. -/
def result (q k : S32768x2048.Idx → EReal) (v : S32768x1024.Idx → EReal) (j : S32768x1024.Idx) : EReal :=
  attn (scores q k ((j 0).val / 16384) ((j 1).val / 128) ((j 0).val % 16384))
    (fun κ => cell v ((j 0).val / 16384 * 16384 + κ.val) ((j 1).val / 128 * 128 + (j 1).val % 128))

theorem result_eq (q k : S32768x2048.Idx → EReal) (v : S32768x1024.Idx → EReal) {j : S32768x1024.Idx} {b h p d : ℕ}
    (h0 : (j 0).val = b * 16384 + p) (hp : p < 16384) (h1 : (j 1).val = h * 128 + d) (hd : d < 128) :
    result q k v j = attn (scores q k b h p) (fun κ => cell v (b * 16384 + κ.val) (h * 128 + d)) := by
  unfold result
  rw [h0, h1, show (b * 16384 + p) / 16384 = b by omega, show (b * 16384 + p) % 16384 = p by omega,
    show (h * 128 + d) / 128 = h by omega, show (h * 128 + d) % 128 = d by omega]

/-- With real entries in the queries and the keys every product of a query and a key is real. -/
theorem dot_real (q k : S32768x2048.Idx → EReal) (hq : ∀ j, ∃ z : ℝ, q j = (z : EReal)) (hk : ∀ j, ∃ z : ℝ, k j = (z : EReal))
    (a a' : ℕ) (f : Fin 256 → ℕ) :
    ∃ z : ℝ, ∑ e : Fin 256, cell q a (f e) * cell k a' (f e) = (z : EReal) := by
  choose x hx using fun e : Fin 256 => hq (ix2 (Fin.ofNat _ a) (Fin.ofNat _ (f e)))
  choose y hy using fun e : Fin 256 => hk (ix2 (Fin.ofNat _ a') (Fin.ofNat _ (f e)))
  refine ⟨∑ e, x e * y e, ?_⟩
  rw [sum_coe]
  refine Finset.sum_congr rfl fun e _ => ?_
  rw [EReal.coe_mul, ← hx, ← hy]
  rfl

variable (hq : ∀ j, ∃ z : ℝ, q0 m c j = (z : EReal)) (hk : ∀ j, ∃ z : ℝ, k0 m c j = (z : EReal))

include hq hk in
/-- What a grid point stores at row `r`, column `d` of its block. -/
theorem point (t : Fin cfg0.N) (r : Fin 512) (d : Fin 128) :
    k0_pay7 (state (iblk m c 0 t) (iblk m c 1 t) (iblk m c 2 t) (t.val % 32) (t.val % 32)).2.1
        (state (iblk m c 0 t) (iblk m c 1 t) (iblk m c 2 t) (t.val % 32) (t.val % 32)).2.2 (ix2 r d)
      = attn (scores (q0 m c) (k0 m c) (t.val / 256) (t.val / 32 % 8) (512 * (t.val % 32) + r.val))
          (fun κ => cell (v0 m c) (t.val / 256 * 16384 + κ.val) (t.val / 32 % 8 * 128 + d.val)) := by
  have key := point_attn (iblk m c 0 t) (iblk m c 1 t) (iblk m c 2 t) ⟨t.val % 32, Nat.mod_lt _ (by decide)⟩ r d
    fun κ => by
      simp only [blkq, blkk]
      exact dot_real (q0 m c) (k0 m c) hq hk _ _ fun e => t.val / 32 % 8 * 256 + e.val
  refine key.trans (congrArg₂ attn ?_ ?_)
  · funext κ
    unfold full scores
    simp only [blkq, blkk]
  · funext κ
    exact blkv m c t κ d

include hq hk in
/-- The output array is the attention of the arguments. -/
theorem final : (dats m 0 c).arrAt 3 (cfgs 0).N = result (q0 m c) (k0 m c) (v0 m c) := by
  refine (dats m 0 c).arrAt_eq_of_covers 3 _ (by decide +kernel) fun t _ y => ?_
  blk_simp
  rw [after0_3]
  unfold outsAt0
  rw [out]
  obtain ⟨-, -, -, h, hc⟩ := idx t
  have hr : (y 0).val < 512 := (y 0).isLt
  have hd : (y 1).val < 128 := (y 1).isLt
  have key := point m c hq hk t ⟨(y 0).val, hr⟩ ⟨(y 1).val, hd⟩
  have ht : t.val < 512 := t.isLt
  have e0 : ((((cfg0.win 3).blk t).view.emb y) 0).val = (t.val / 256 * 32 + t.val % 32) * 512 + (y 0).val := by
    blk_simp [h]
  have e1 : ((((cfg0.win 3).blk t).view.emb y) 1).val = t.val / 32 % 8 * 128 + (y 1).val := by
    blk_simp [h]
  rw [hc]
  have ey : y = ix2 ⟨(y 0).val, hr⟩ ⟨(y 1).val, hd⟩ := by
    funext a; match a with | ⟨0, _⟩ => rfl | ⟨1, _⟩ => rfl
  refine Eq.trans (congrArg _ ey) (key.trans ?_)
  refine (result_eq (q0 m c) (k0 m c) (v0 m c) (j := ((cfg0.win 3).blk t).view.emb y) ?_ ?_ ?_ ?_).symm
  · rw [e0]; dsimp only; omega
  · dsimp only; omega
  · rw [e1]
  · exact hd

end Cert.Kernel2Ideal.Block
-- ==== Proof.MlaRef.lean ====
/- What the reference of the latent attention computes: at each query, head and column the softmax of the scores, with
   the keys of later chunks at `⊥`, weighing that column of the values. -/
module

public import proofs.«01_k».proof.Proof.Gen.Reference2Ideal.Read
public import proofs.«01_k».proof.Proof.Softmax
public import proofs.«01_k».proof.Proof.Cells
public import Idealize.ShloMosaic.Lib.Pointwise

@[expose] public section
set_option maxRecDepth 16384
noncomputable section

namespace Cert.Reference2Ideal.Entry

open Cert.Reference2Ideal Cert.Reference2Ideal.Gen Cert.Reference2Ideal.Read Cert.Softmax Cert.Cells
open Idealize.ShloMosaic Idealize.ShloMosaic.TcCoe Idealize.ShloMosaic.Tactic Idealize.SL.Sem

variable (x0 x1 : (⟨S32768x2048, .bf16⟩ : BufTy).Contents (Elt Ideal)) (x2 : (⟨S32768x1024, .bf16⟩ : BufTy).Contents (Elt Ideal))
variable (b : Fin 2) (h : Fin 8) (q : Fin 16384)

/-- The product of query `q` and key `κ` of head `h` in batch `b`. -/
def dot (κ : Fin 16384) : EReal :=
  ∑ e : Fin 256, cell x0 (b.val * 16384 + q.val) (h.val * 256 + e.val) * cell x1 (b.val * 16384 + κ.val) (h.val * 256 + e.val)

/-- The score of query `q` against key `κ`: the product, `⊥` where the key's chunk is later. -/
def sc (κ : Fin 16384) : EReal := if κ.val / 64 ≤ q.val / 64 then dot x0 x1 b h q κ else ⊥

theorem v1_eq (e : Fin 256) : val_main_v1 (F := Ideal) x0 (ix4 b q h e) = cell x0 (b.val * 16384 + q.val) (h.val * 256 + e.val) := by
  rw [val_main_v1_apply]
  refine eq_cell x0 _ ?_ ?_
  · show (((b.val * 16384 + q.val) * 8 + h.val) * 256 + e.val) / 2048 = _
    omega
  · show (((b.val * 16384 + q.val) * 8 + h.val) * 256 + e.val) % 2048 = _
    omega

theorem v3_eq (e : Fin 256) : val_main_v3 (F := Ideal) x1 (ix4 b q h e) = cell x1 (b.val * 16384 + q.val) (h.val * 256 + e.val) := by
  rw [val_main_v3_apply]
  refine eq_cell x1 _ ?_ ?_
  · show (((b.val * 16384 + q.val) * 8 + h.val) * 256 + e.val) / 2048 = _
    omega
  · show (((b.val * 16384 + q.val) * 8 + h.val) * 256 + e.val) % 2048 = _
    omega

theorem v5_eq (d : Fin 128) : val_main_v5 (F := Ideal) x2 (ix4 b q h d) = cell x2 (b.val * 16384 + q.val) (h.val * 128 + d.val) := by
  rw [val_main_v5_apply]
  refine eq_cell x2 _ ?_ ?_
  · show (((b.val * 16384 + q.val) * 8 + h.val) * 128 + d.val) / 1024 = _
    omega
  · show (((b.val * 16384 + q.val) * 8 + h.val) * 128 + d.val) % 1024 = _
    omega

theorem l6 (κ : Fin 16384) (e : Fin 256) : lidx_main_v6 (ix4 b h q κ) e = ix4 b q h e := by
  funext a; match a with | ⟨0, _⟩ => rfl | ⟨1, _⟩ => rfl | ⟨2, _⟩ => rfl | ⟨3, _⟩ => rfl
theorem r6 (κ : Fin 16384) (e : Fin 256) : ridx_main_v6 (ix4 b h q κ) e = ix4 b κ h e := by
  funext a; match a with | ⟨0, _⟩ => rfl | ⟨1, _⟩ => rfl | ⟨2, _⟩ => rfl | ⟨3, _⟩ => rfl

theorem v6_eq (κ : Fin 16384) : val_main_v6 (F := Ideal) x0 x1 (ix4 b h q κ) = dot x0 x1 b h q κ := by
  rw [val_main_v6_apply]
  exact Finset.sum_congr rfl fun e _ => by rw [l6, r6, v1_eq, v3_eq]

/-- The sign of a word. -/
def sgn (a : BitVec 32) : BitVec 32 := if a = 0 then 0 else if a.msb then -1 else 1

/-- The chunk of a position, as the reference computes it in words. -/
def chunkWord (n : ℕ) : BitVec 32 :=
  Scalar.select
    (IntOp.andi (IntOp.cmpi .ne (sgn (BitVec.ofNat 32 n)) (sgn 64#32))
      (IntOp.cmpi .ne (IntOp.remsi .host (BitVec.ofNat 32 n) 64#32) 0#32))
    (IntOp.subi (IntOp.divsi .host (BitVec.ofNat 32 n) 64#32) 1#32)
    (IntOp.divsi .host (BitVec.ofNat 32 n) 64#32)

theorem chunkWord_eq : ∀ n : Fin 16384, chunkWord n.val = BitVec.ofNat 32 (n.val / 64) := by decide +kernel

theorem v8_eq (n : Fin 16384) : val_main_v8 (F := Ideal) (ix1 n) = BitVec.ofNat 32 (n.val / 64) := by
  rw [← chunkWord_eq, val_main_v8_apply, val_main_call0_v11_apply, val_main_call0_v13_apply, val_main_call0_v2_apply,
    val_main_call0_v6_apply, val_main_call0_v10_apply, val_main_call0_v8_apply, val_main_call0_v9_apply,
    val_main_call0_v12_apply, val_main_call0_v1_apply, val_main_call0_v5_apply, val_main_call0_v7_apply,
    val_main_v7_apply]
  unfold val_main_call0_v3 val_main_call0_v4 signi
  rfl

theorem chunk_le (a c : ℕ) (ha : a < 256) (hc : c < 256) : IntOp.cmpi .sle (BitVec.ofNat 32 a) (BitVec.ofNat 32 c)
    = if a ≤ c then 1#1 else 0#1 := by
  have : ∀ a c : Fin 256, IntOp.cmpi .sle (BitVec.ofNat 32 a.val) (BitVec.ofNat 32 c.val)
    = if a.val ≤ c.val then 1#1 else 0#1 := by decide +kernel
  exact this ⟨a, ha⟩ ⟨c, hc⟩

theorem v13_eq (κ : Fin 16384) : val_main_v13 (F := Ideal) (ix2 q κ) = if κ.val / 64 ≤ q.val / 64 then 1#1 else 0#1 := by
  rw [val_main_v13_apply, val_main_v11_apply, val_main_v9_apply, val_main_v12_apply, val_main_v10_apply]
  have e1 : idx_main_v9 (idx_main_v11 (ix2 q κ)) = ix1 κ := by funext a; match a with | ⟨0, _⟩ => rfl
  have e2 : idx_main_v10 (idx_main_v12 (ix2 q κ)) = ix1 q := by funext a; match a with | ⟨0, _⟩ => rfl
  rw [e1, e2, v8_eq, v8_eq]
  exact chunk_le _ _ (by omega) (by omega)

theorem neg_inf : Ideal.ofBits FTy.f32 0xFF800000#32 = ⊥ := by simp [Ideal.ofBits, Ideal.ieee]

theorem zero_word : Ideal.ofBits FTy.f32 0x00000000#32 = 0 := by simp [Ideal.ofBits, Ideal.ieee]

theorem v14_eq (κ : Fin 16384) : val_main_v14 (F := Ideal) x0 x1 (ix4 b h q κ) = sc x0 x1 b h q κ := by
  rw [val_main_v14_apply, val_main_call1_v1_apply, val_main_call1_v2_apply, val_main_call1_v0_apply, v6_eq]
  have e1 : idx_main_call1_v1 (ix4 b h q κ) = ix2 q κ := by funext a; match a with | ⟨0, _⟩ => rfl | ⟨1, _⟩ => rfl
  rw [e1, v13_eq]
  unfold sc Scalar.select
  by_cases hk : κ.val / 64 ≤ q.val / 64
  · rw [if_pos hk, if_pos hk]; exact if_pos rfl
  · rw [if_neg hk, if_neg hk]; exact (if_neg (by decide)).trans neg_inf

set_option backward.isDefEq.respectTransparency false in
theorem v15_eq : val_main_v15 (F := Ideal) x0 x1 (ix3 b h q) = Finset.univ.fold max ⊥ (sc x0 x1 b h q) := by
  pointwise [val_main_v15]
  refine (congrArg (fun z => Finset.univ.fold max z _) (neg_inf)).trans ?_
  exact congrArg (Finset.univ.fold max ⊥) (funext (v14_eq x0 x1 b h q))

theorem v17_eq : val_main_v17 (F := Ideal) x0 x1 (ix3 b h q) = Finset.univ.fold max ⊥ (sc x0 x1 b h q) := by
  rw [val_main_v17_apply, val_main_v16_apply, v15_eq]
  refine (congrArg (fun z => max z _) neg_inf).trans ?_
  exact max_eq_right bot_le

theorem v21_eq (κ : Fin 16384) : val_main_v21 (F := Ideal) x0 x1 (ix4 b h q κ)
    = Ideal.exp (sc x0 x1 b h q κ - Finset.univ.fold max ⊥ (sc x0 x1 b h q)) := by
  rw [val_main_v21_apply, val_main_v20_apply, val_main_v19_apply, val_main_v18_apply, v14_eq]
  have e1 : idx_main_v18 (idx_main_v19 (ix4 b h q κ)) = ix3 b h q := by
    funext a; match a with | ⟨0, _⟩ => rfl | ⟨1, _⟩ => rfl | ⟨2, _⟩ => rfl
  rw [e1, v17_eq]
  rfl

theorem v22_eq : val_main_v22 (F := Ideal) x0 x1 (ix3 b h q)
    = ∑ κ, Ideal.exp (sc x0 x1 b h q κ - Finset.univ.fold max ⊥ (sc x0 x1 b h q)) := by
  rw [val_main_v22_apply]
  refine (congrArg (· + _) zero_word).trans ((zero_add _).trans ?_)
  refine Finset.sum_congr rfl fun κ _ => ?_
  have e1 : idx_main_v22 (ix3 b h q) κ = ix4 b h q κ := by
    funext a; match a with | ⟨0, _⟩ => rfl | ⟨1, _⟩ => rfl | ⟨2, _⟩ => rfl | ⟨3, _⟩ => rfl
  rw [e1, v21_eq]

theorem v25_eq (κ : Fin 16384) : val_main_v25 (F := Ideal) x0 x1 (ix4 b h q κ)
    = Ideal.div (Ideal.exp (sc x0 x1 b h q κ - Finset.univ.fold max ⊥ (sc x0 x1 b h q)))
        (∑ κ, Ideal.exp (sc x0 x1 b h q κ - Finset.univ.fold max ⊥ (sc x0 x1 b h q))) := by
  rw [val_main_v25_apply, val_main_v24_apply, val_main_v23_apply, v21_eq]
  have e1 : idx_main_v23 (idx_main_v24 (ix4 b h q κ)) = ix3 b h q := by
    funext a; match a with | ⟨0, _⟩ => rfl | ⟨1, _⟩ => rfl | ⟨2, _⟩ => rfl
  rw [e1, v22_eq]
  rfl

theorem v26_eq (d : Fin 128) : val_main_v26 (F := Ideal) x0 x1 x2 (ix4 b h d q)
    = attn (sc x0 x1 b h q) (fun κ => cell x2 (b.val * 16384 + κ.val) (h.val * 128 + d.val)) := by
  rw [val_main_v26_apply]
  refine Finset.sum_congr rfl fun κ _ => ?_
  have e1 : lidx_main_v26 (ix4 b h d q) κ = ix4 b κ h d := by
    funext a; match a with | ⟨0, _⟩ => rfl | ⟨1, _⟩ => rfl | ⟨2, _⟩ => rfl | ⟨3, _⟩ => rfl
  have e2 : ridx_main_v26 (ix4 b h d q) κ = ix4 b h q κ := by
    funext a; match a with | ⟨0, _⟩ => rfl | ⟨1, _⟩ => rfl | ⟨2, _⟩ => rfl | ⟨3, _⟩ => rfl
  rw [e1, e2, v5_eq, v25_eq]

/-- An entry of the reference's result is the softmax attention of its query, head and column. -/
theorem entry (d : Fin 128) (j : S32768x1024.Idx) (h0 : (j 0).val = b.val * 16384 + q.val)
    (h1 : (j 1).val = h.val * 128 + d.val) : val_main_v29 (F := Ideal) x0 x1 x2 j
      = attn (sc x0 x1 b h q) (fun κ => cell x2 (b.val * 16384 + κ.val) (h.val * 128 + d.val)) := by
  rw [← v26_eq, val_main_v29_apply, val_main_v28_apply, val_main_v27_apply]
  have e1 : idx_main_v27 (idx_main_v28 j) = ix4 b h d q := by
    funext a
    match a with
    | ⟨0, _⟩ => exact Fin.ext (by show ((j 0).val * 1024 + (j 1).val) / 16777216 = b.val; omega)
    | ⟨1, _⟩ => exact Fin.ext (by show ((j 0).val * 1024 + (j 1).val) / 128 % 8 = h.val; omega)
    | ⟨2, _⟩ => exact Fin.ext (by show ((j 0).val * 1024 + (j 1).val) % 128 = d.val; omega)
    | ⟨3, _⟩ => exact Fin.ext (by show ((j 0).val * 1024 + (j 1).val) / 1024 % 16384 = q.val; omega)
  rw [e1]
  rfl

end Cert.Reference2Ideal.Entry
-- ==== Proof.Real.lean ====
/- The preconditions in words: an entry whose absolute value lies below plus infinity is a real. -/
module

public import proofs.«01_k».proof.Pre_finite
public import proofs.«01_k».proof.Pre_finite2
public import Idealize.ShloMosaic.Lib.Pointwise

@[expose] public section

set_option maxRecDepth 16384

noncomputable section

namespace Cert.Finite

open Idealize.ShloMosaic

/-- The side conditions of the first precondition's operations. -/
theorem facts : Cert.Pre_finite.Facts where
  slices_S32768x3072_S32768x2048_0_0 := by decide
  bitsLt_bf16_f32 := by decide
  bcast_S_S32768x2048 := by decide

/-- The side conditions of the second precondition's operations. -/
theorem facts2 : Cert.Pre_finite2.Facts where
  bitsLt_bf16_f32 := by decide
  bcast_S_S32768x2048 := by decide

theorem inf_word : Ideal.ofBits FTy.f32 0x7F800000#32 = ⊤ := by simp [Ideal.ofBits, Ideal.ieee]

/-- An extended real whose absolute value is below plus infinity is a real. -/
theorem real_of_abs_lt (a : EReal) (h : Ideal.cmp .olt (max a (-a)) (Ideal.ofBits FTy.f32 0x7F800000#32) = 1#1) :
    ∃ z : ℝ, a = (z : EReal) := by
  rw [inf_word] at h
  have lt : max a (-a) < (⊤ : EReal) := by
    by_contra hn
    simp [Ideal.cmp, hn] at h
  induction a using EReal.rec with
  | bot => simp at lt
  | coe x => exact ⟨x, rfl⟩
  | top => simp at lt

theorem real_of_finite2 (x0 x1 : Cert.Pre_finite2.S32768x2048.Idx → EReal) (x2 : Cert.Pre_finite2.S32768x1024.Idx → EReal)
    (h : (@Cert.Pre_finite2.fn facts2 Ideal _ x0 x1 x2).1 = fun _ => 1#1)
    (h' : (@Cert.Pre_finite2.fn facts2 Ideal _ x0 x1 x2).2 = fun _ => 1#1) :
    (∀ j, ∃ z : ℝ, x0 j = (z : EReal)) ∧ ∀ j, ∃ z : ℝ, x1 j = (z : EReal) :=
  ⟨fun j => real_of_abs_lt (x0 j) (congrFun h j), fun j => real_of_abs_lt (x1 j) (congrFun h' j)⟩

theorem real_of_finite (x : Cert.Pre_finite.S32768x3072.Idx → EReal)
    (h : @Cert.Pre_finite.fn facts Ideal _ x = fun _ => 1#1) (j : Cert.Pre_finite.S32768x3072.Idx) (hj : (j 1).val < 2048) :
    ∃ z : ℝ, x j = (z : EReal) := by
  have key := congrFun h (ix2 ⟨(j 0).val, (j 0).isLt⟩ ⟨(j 1).val, hj⟩)
  refine real_of_abs_lt (x j) (Eq.trans ?_ key)
  refine congrArg (fun a => Ideal.cmp .olt (max a (-a)) (Ideal.ofBits FTy.f32 0x7F800000#32)) ?_
  refine congrArg x ?_
  funext a
  match a with
  | ⟨0, _⟩ => exact Fin.ext (Nat.zero_add _).symm
  | ⟨1, _⟩ => exact Fin.ext (Nat.zero_add _).symm

end Cert.Finite
-- ==== Proof.MlaClaim.lean ====
/- The equation of the latent attention: the kernel's array is the reference's result. -/
module

public import proofs.«01_k».proof.Defs
public import proofs.«01_k».proof.Proof.MlaArray
public import proofs.«01_k».proof.Proof.MlaRef
public import proofs.«01_k».proof.Proof.Real

@[expose] public section

set_option maxRecDepth 16384

noncomputable section

namespace Cert.Mla

open Cert.Kernel2Ideal.Block Cert.Softmax Cert.Cells
open Idealize.ShloMosaic Idealize.ShloMosaic.TcCoe Idealize.SL.Sem

/-- The reference's result is the attention of its arguments. -/
theorem ref_eq (x0 x1 : Cert.Kernel2Ideal.S32768x2048.Idx → EReal) (x2 : Cert.Kernel2Ideal.S32768x1024.Idx → EReal) :
    Cert.Reference2Ideal.Read.val_main_v29 (F := Ideal) x0 x1 x2 = result x0 x1 x2 := by
  funext j
  have h0 : (j 0).val < 32768 := (j 0).isLt
  have h1 : (j 1).val < 1024 := (j 1).isLt
  exact Cert.Reference2Ideal.Entry.entry x0 x1 x2 ⟨(j 0).val / 16384, by omega⟩ ⟨(j 1).val / 128, by omega⟩
    ⟨(j 0).val % 16384, by omega⟩ ⟨(j 1).val % 128, by omega⟩ j (by dsimp only; omega) (by dsimp only; omega)

/-- The claim: the latent attention kernel computes its reference. -/
theorem algebraic : @Cert.algebraic_Kernel2Ideal_Reference2Ideal_pre_finite2 Cert.Kernel2Ideal.Gen.facts
    Cert.Reference2Ideal.Gen.facts Cert.Finite.facts2 := by
  intro m g m' g' hpre hagree
  have real := fun c => Cert.Finite.real_of_finite2 _ _ _ (hpre c).1 (hpre c).2
  refine ⟨fun c => result (q0 m c) (k0 m c) (v0 m c), ?_, ?_⟩
  · refine (θ_run Cert.Kernel2Ideal.defs _ _).mono (fun _ h c => ⟨(h c).1.trans ?_, (h c).2⟩)
      (Cert.Kernel2Ideal.Value.run_blocks m g)
    exact final m c (real c).1 (real c).2
  · refine (θ_run Cert.Reference2Ideal.defs _ _).mono (fun _ h c => ⟨(h c).1.trans ?_, (h c).2⟩)
      (Cert.Reference2Ideal.Value.run (F := Ideal) m' g')
    rw [Cert.Reference2Ideal.Read.val_main_v29_eq, (hagree c).1, (hagree c).2.1, (hagree c).2.2]
    exact ref_eq _ _ _

end Cert.Mla
-- ==== Proof.SbBlock.lean ====
/- What one grid point of the stick-breaking attention computes, as a state of two arrays that each key block changes in
   turn: the four blocks of the diagonal from the last to the first, then the blocks before them. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Block

open Cert.KernelIdeal Cert.KernelIdeal.Gen
open Idealize.ShloMosaic Idealize.ShloMosaic.TcCoe Idealize.ShloMosaic.Tactic Idealize.SL.Sem

/-- The rows `256 n …` of a key or value matrix. -/
def rows (x : Vec Ideal S16384x128 .bf16) (n : ℕ) : Vec Ideal S256x128 .bf16 := fun j =>
  x (ix2 ⟨(256 * n + (j 0).val) % 16384, Nat.mod_lt _ (by decide)⟩ (j 1))

theorem ld_rows (x : Vec Ideal S16384x128 .bf16) (n : ℕ) (off : Fin 2 → ℕ) (inb) (h : off = ![256 * n, 0]) :
    View.ld x (Rect.unit (s := S16384x128) off S256x128.size inb) = rows x n := by
  subst h
  funext j
  refine View.ld_unit_apply_of x _ _ inb j _ fun a => ?_
  have h0 : 256 * n + 256 ≤ 16384 := inb 0
  have hj : (j 0).val < 256 := (j 0).isLt
  match a with
  | ⟨0, _⟩ => exact Nat.mod_eq_of_lt (by omega)
  | ⟨1, _⟩ => exact (Nat.zero_add _).symm

/-- The state: the running sum of the logarithms kept so far, and the running weighted values. -/
abbrev St := FVec Ideal S1024x1 .f32 × FVec Ideal S1024x128 .f32

/-- One key block before the diagonal. -/
def step (x0 : Vec Ideal S1024x128 .bf16) (kb vb : Vec Ideal S256x128 .bf16) (a : St) : St :=
  (k0_pay4 x0 a.1 kb, k0_pay3 x0 k0_pay10 a.1 a.2 kb vb)

/-- Which keys of the diagonal's block at offset `o` a query sees. -/
def seen (o : BitVec 32) : IVec S1024x256 1 :=
  cmpi .slt (addi (iota .tc S1024x256 32 [1] iota_S1024x256_d1_w32) (broadcast S1024x256 o))
    (iota .tc S1024x256 32 [0] iota_S1024x256_d0_w32)

/-- The logarithms kept in the diagonal's block at offset `o`, zero where the key is not seen. -/
def kept (o : BitVec 32) (x0 : Vec Ideal S1024x128 .bf16) (kb : Vec Ideal S256x128 .bf16) : FVec Ideal S1024x256 .f32 :=
  select (seen o) (k0_pay2 x0 kb) (broadcast S1024x256 (Scalar.ofBits .f32 0x00000000#32))

/-- The weights of the diagonal's block at offset `o`, zero where the key is not seen. -/
def weights (o : BitVec 32) (x0 : Vec Ideal S1024x128 .bf16) (kb : Vec Ideal S256x128 .bf16) (run : FVec Ideal S1024x1 .f32) :
    FVec Ideal S1024x256 .f32 :=
  select (seen o)
    (exp (addf (addf (k0_pay1 x0 kb) (kept o x0 kb))
      (addf (matmul dot_S1024x256_S256x256_S1024x256_1_0_0_1_n_n none (truncf .bf16 (kept o x0 kb) bitsLt_bf16_f32)
          (k0_pay10 (F := Ideal)) (constant S1024x256 .f32 0x00000000#32))
        (broadcastTo S1024x256 run broadcasts_S1024x1_S1024x256))))
    (broadcast S1024x256 (Scalar.ofBits .f32 0x00000000#32))

/-- One key block of the diagonal. -/
def diag (o : BitVec 32) (x0 : Vec Ideal S1024x128 .bf16) (kb vb : Vec Ideal S256x128 .bf16) (a : St) : St :=
  (addf a.1 (shapeCast S1024x1 (multiReduction .add [1] S1024 (kept o x0 kb) 0x00000000#32 reduces_S1024x256_S1024
      (.inl rfl) rfl) shapeCasts_S1024_S1024x1),
    addf a.2 (matmul (φ₂ := .bf16) dot_S1024x256_S256x128_S1024x128_1_0_0_1_n_n none
      (truncf .bf16 (weights o x0 kb a.1) bitsLt_bf16_f32) vb (constant S1024x128 .f32 0x00000000#32)))

/-- The state after the diagonal's four blocks. -/
def start (x0 : Vec Ideal S1024x128 .bf16) (x1 x2 : Vec Ideal S16384x128 .bf16) (i : ℕ) : St :=
  diag 0#32 x0 (rows x1 (4 * i + 0)) (rows x2 (4 * i + 0))
    (diag 256#32 x0 (rows x1 (4 * i + 1)) (rows x2 (4 * i + 1))
      (diag 512#32 x0 (rows x1 (4 * i + 2)) (rows x2 (4 * i + 2))
        (diag 768#32 x0 (rows x1 (4 * i + 3)) (rows x2 (4 * i + 3)) (k0_pay11, k0_pay12))))

/-- The state after `n` of the blocks before the diagonal, taken from the last. -/
def state (x0 : Vec Ideal S1024x128 .bf16) (x1 x2 : Vec Ideal S16384x128 .bf16) (i : ℕ) : ℕ → St
  | 0 => start x0 x1 x2 i
  | n + 1 => step x0 (rows x1 (4 * i - 1 - n)) (rows x2 (4 * i - 1 - n)) (state x0 x1 x2 i n)

theorem off2_eq : ∀ (i : grid0.Coords) (k : Fin (k0_t1_loop i).trips),
    k0_off2 i k = ![256 * (4 * (i 2).val - 1 - k.val), 0] := by decide +kernel

section
variable (c : Dev nD) (i : grid0.Coords) (arg3 : Memref sig .tc .vmem S1024x128 .bf16) (harg3 : arg3.IsWhole)
    (arg4 : Memref sig .tc .vmem S16384x128 .bf16) (harg4 : arg4.IsWhole)
    (arg5 : Memref sig .tc .vmem S16384x128 .bf16) (harg5 : arg5.IsWhole)
    (arg6 : Memref sig .tc .vmem S1024x128 .bf16) (harg6 : arg6.IsWhole)
    (x0 : Vec Ideal S1024x128 .bf16) (x1 : Vec Ideal S16384x128 .bf16) (x2 : Vec Ideal S16384x128 .bf16)

/-- One trip of the loop is one step. -/
theorem tripR (k) (acc) :
    tripR_k0_t1 (F := Ideal) Variants.none c none i arg3 harg3 arg4 harg4 arg5 harg5 arg6 harg6 x0 k0_pay10
      (harg4.unread x1) (harg5.unread x2) k acc
      = step x0 (rows x1 (4 * (i 2).val - 1 - k.val)) (rows x2 (4 * (i 2).val - 1 - k.val)) acc := by
  unfold tripR_k0_t1 trip_k0_t1
  dsimp only
  sl_unfold_words
  simp only [View.readAt_eq_ld, harg4.read_unread, harg5.read_unread]
  exact congrArg₂ (fun a b => step x0 a b acc) (ld_rows x1 _ _ (k0_off2_inb i k) (off2_eq i k))
    (ld_rows x2 _ _ (k0_off2_inb i k) (off2_eq i k))

/-- The loop's state before trip `n` is the state after `n` blocks. -/
theorem st_eq (n : ℕ) (hn : n ≤ (k0_t1_loop i).trips) :
    st_k0_t1 (F := Ideal) Variants.none c none i arg3 harg3 arg4 harg4 arg5 harg5 arg6 harg6 x0 k0_pay10
      (harg4.unread x1) (harg5.unread x2) (start x0 x1 x2 (i 2).val) n
      = state x0 x1 x2 (i 2).val n := by
  induction n with
  | zero => rfl
  | succ n ih =>
    rw [st_k0_t1_succ Variants.none c none i arg3 harg3 arg4 harg4 arg5 harg5 arg6 harg6 x0 k0_pay10
      (harg4.unread x1) (harg5.unread x2) _ ⟨n, hn⟩, tripR]
    exact congrArg _ (ih (Nat.le_of_succ_le hn))

/-- The diagonal's four blocks as the kernel spells them, from the keys and values it loads. -/
def raw (k3 v3 k2 v2 k1 v1 k0 v0 : Vec Ideal S256x128 .bf16) : St :=
  let p := iota .tc S1024x256 32 [0] iota_S1024x256_d0_w32
  let q := iota .tc S1024x256 32 [1] iota_S1024x256_d1_w32
  let l2 := k0_pay22 x0 p q k2
  let l1 := k0_pay27 x0 p q k1
  let r1 := k0_pay24 (k0_pay19 k0_pay11 (k0_pay15 x0 k3)) l2
  let a3 := k0_pay18 k0_pay12 k0_pay13 v3 (k0_pay16 x0 k3) (k0_pay17 x0 k3)
  let a1 := k0_pay28 x0 k0_pay10 p q a3 (k0_pay19 k0_pay11 (k0_pay15 x0 k3)) v2 l2
    (k0_pay23 x0 k0_pay10 k0_pay11 p q (k0_pay15 x0 k3) k2) k1 v1
  (k0_pay34 x0 p q r1 l1 k0, k0_pay33 x0 k0_pay10 p q r1 l1 a1 k0 v0)

theorem raw_eq (k3 v3 k2 v2 k1 v1 k0 v0 : Vec Ideal S256x128 .bf16) :
    raw x0 k3 v3 k2 v2 k1 v1 k0 v0
      = diag 0#32 x0 k0 v0 (diag 256#32 x0 k1 v1 (diag 512#32 x0 k2 v2 (diag 768#32 x0 k3 v3 (k0_pay11, k0_pay12)))) :=
  Prod.ext rfl rfl

theorem trips : ∀ i : Fin 16, Scf.trips 0#32 (Scalar.addi 0#32 (Scalar.muli (Scalar.divsi (Scalar.subi
    (Scalar.muli (BitVec.ofNat 32 i.val) 4#32) 0#32) 1#32) 1#32)) 1#32 = 4 * i.val := by decide +kernel

theorem trips' : ∀ i : Fin 16, Scf.trips (Scalar.addi 0#32 (Scalar.muli (Scalar.divsi (Scalar.subi
    (Scalar.muli (BitVec.ofNat 32 i.val) 4#32) 0#32) 1#32) 1#32)) (Scalar.addi 0#32 (Scalar.subi
    (Scalar.muli (BitVec.ofNat 32 i.val) 4#32) 0#32)) 1#32 = 0 := by
  decide +kernel

/-- What a grid point leaves in its output block: the weighted values after all blocks. -/
theorem out : out0_A_3 c i arg3 harg3 arg4 harg4 arg5 harg5 arg6 harg6 x0 x1 x2
      = k0_pay9 (state x0 x1 x2 (i 2).val (4 * (i 2).val)).2 := by
  unfold out0_A_3
  refine (View.read_writes_eq_canon _ _ _ (cover0_A_3 c i arg3 harg3 arg4 harg4 arg5 harg5 arg6 harg6 x0 x1 x2)).trans ?_
  unfold kernelRun0_A
  dsimp only
  sl_unfold_words
  simp only [View.readAt_eq_ld, harg3.read_unread, harg4.read_unread, harg5.read_unread]
  rw [trips' (i 2), trips (i 2), st_k0_t2_zero]
  have hz : (![0, 0] : Fin 2 → ℕ) = fun _ => 0 := by funext a; fin_cases a <;> rfl
  refine (View.canon_unit_zero (S := S1024x128) hz _ _).trans ?_
  have e0 : View.ld x0 (Rect.unit ![0, 0] ![1024, 128] inb_S1024x128_S1024x128_0_0) = x0 :=
    View.ld_unit_zero (S := S1024x128) hz _ x0
  have o (s : Fin 4) : k0_off1 i (BitVec.ofNat 32 (256 * s.val)) = ![256 * (4 * (i 2).val + s.val), 0] :=
    (k0_off1_eq i s).trans (congrArg (fun n : ℕ => ![n, 0]) (by omega))
  have e (x : Vec Ideal S16384x128 .bf16) (s : Fin 4) :=
    ld_rows x (4 * (i 2).val + s.val) (k0_off1 i (BitVec.ofNat 32 (256 * s.val))) (k0_off1_inb i s) (o s)
  have key := st_eq c i arg3 harg3 arg4 harg4 arg5 harg5 arg6 harg6 x0 x1 x2 (4 * (i 2).val) (trips (i 2)).ge
  rw [← key]
  have hs : start x0 x1 x2 (i 2).val = raw x0 (View.ld x1 (Rect.unit (k0_off1 i 768#32) S256x128.size (k0_off1_inb i 3)))
      (View.ld x2 (Rect.unit (k0_off1 i 768#32) S256x128.size (k0_off1_inb i 3)))
      (View.ld x1 (Rect.unit (k0_off1 i 512#32) S256x128.size (k0_off1_inb i 2)))
      (View.ld x2 (Rect.unit (k0_off1 i 512#32) S256x128.size (k0_off1_inb i 2)))
      (View.ld x1 (Rect.unit (k0_off1 i 256#32) S256x128.size (k0_off1_inb i 1)))
      (View.ld x2 (Rect.unit (k0_off1 i 256#32) S256x128.size (k0_off1_inb i 1)))
      (View.ld x1 (Rect.unit (k0_off1 i 0#32) S256x128.size (k0_off1_inb i 0)))
      (View.ld x2 (Rect.unit (k0_off1 i 0#32) S256x128.size (k0_off1_inb i 0))) := by
    rw [raw_eq]
    show diag 0#32 x0 (rows x1 (4 * (i 2).val + (0 : Fin 4).val)) (rows x2 (4 * (i 2).val + (0 : Fin 4).val))
      (diag 256#32 x0 (rows x1 (4 * (i 2).val + (1 : Fin 4).val)) (rows x2 (4 * (i 2).val + (1 : Fin 4).val))
      (diag 512#32 x0 (rows x1 (4 * (i 2).val + (2 : Fin 4).val)) (rows x2 (4 * (i 2).val + (2 : Fin 4).val))
      (diag 768#32 x0 (rows x1 (4 * (i 2).val + (3 : Fin 4).val)) (rows x2 (4 * (i 2).val + (3 : Fin 4).val))
        (k0_pay11, k0_pay12)))) = _
    rw [← e x1 0, ← e x2 0, ← e x1 1, ← e x2 1, ← e x1 2, ← e x2 2, ← e x1 3, ← e x2 3]
    rfl
  rw [hs, e0]
  rfl
end

end Cert.KernelIdeal.Block
-- ==== Proof.SbMath.lean ====
/- The mathematics of stick-breaking attention for one query: the logarithm a key keeps, the sum of those over all later
   keys, the weight of a key, and what one block of 256 keys, taken from the last to the first, adds to the running sums. -/
module

public import proofs.«01_k».proof.Proof.Softmax

@[expose] public section

noncomputable section

namespace Cert.Stick

open Idealize.ShloMosaic Cert.Softmax

/-- The logarithm of one minus the logistic of `x`. -/
def keep (x : ℝ) : ℝ := -(max x 0 + Real.log (1 + Real.exp (-|x|)))

/-- The same on extended reals, as the programs spell it. -/
def keepE (x : EReal) : EReal := 0 - (max x 0 + Ideal.log (1 + Ideal.exp (0 - max x (-x))))

theorem one_add_exp_pos (x : ℝ) : 0 < 1 + Real.exp x := add_pos one_pos (Real.exp_pos x)

theorem log_one_add_exp (x : ℝ) : Ideal.log (1 + Ideal.exp (x : EReal)) = ((Real.log (1 + Real.exp x) : ℝ) : EReal) := by
  rw [exp_coe, ← EReal.coe_one, ← EReal.coe_add]
  exact if_neg (one_add_exp_pos x).not_ge

theorem max_coe (x y : ℝ) : max (x : EReal) (y : EReal) = ((max x y : ℝ) : EReal) :=
  (EReal.coe_strictMono.monotone.map_max).symm

theorem abs_coe (x : ℝ) : max (x : EReal) (-(x : EReal)) = ((|x| : ℝ) : EReal) := by
  rw [← EReal.coe_neg, max_coe]; rfl

theorem keepE_coe (x : ℝ) : keepE (x : EReal) = (keep x : EReal) := by
  unfold keepE keep
  rw [abs_coe, ← EReal.coe_zero, ← EReal.coe_sub, log_one_add_exp, max_coe, ← EReal.coe_add, ← EReal.coe_sub, zero_sub,
    zero_sub]

/-- The logarithm of the logistic is the score plus the logarithm kept. -/
theorem keep_neg (x : ℝ) : keep (-x) = x + keep x := by
  unfold keep
  rw [abs_neg]
  have : max (-x) 0 = max x 0 - x := by
    rcases le_total x 0 with h | h
    · rw [max_eq_left (neg_nonneg.2 h), max_eq_right h, zero_sub]
    · rw [max_eq_right (neg_nonpos.2 h), max_eq_left h, sub_self]
  rw [this]; ring

section
variable (p : ℕ) (z : ℕ → ℝ)

/-- What key `κ` keeps: only the keys before the query `p` take part. -/
def kept (κ : ℕ) : ℝ := if κ < p then keep (z κ) else 0

/-- The sum of what the keys from `κ` on keep. -/
def suffix (κ : ℕ) : ℝ := ∑ j ∈ Finset.Ico κ 16384, kept p z j

/-- The weight of key `κ`. -/
def weight (κ : ℕ) : EReal := if κ < p then ((Real.exp (z κ + kept p z κ + suffix p z (κ + 1)) : ℝ) : EReal) else 0

/-- The values weighted, over the keys from `κ` on. -/
def part (v : ℕ → EReal) (κ : ℕ) : EReal := ∑ j ∈ Finset.Ico κ 16384, weight p z j * v j

/-- What the stick-breaking attention gives the query. -/
def attn (v : ℕ → EReal) : EReal := part p z v 0

theorem suffix_of_le {κ : ℕ} (h : p ≤ κ) : suffix p z κ = 0 :=
  Finset.sum_eq_zero fun j hj => if_neg (by have := (Finset.mem_Ico.1 hj).1; omega)

theorem part_of_le (v : ℕ → EReal) {κ : ℕ} (h : p ≤ κ) : part p z v κ = 0 :=
  Finset.sum_eq_zero fun j hj => by
    unfold weight
    rw [if_neg (by have := (Finset.mem_Ico.1 hj).1; omega), zero_mul]

/-- A sum from a block's start is the sum over the block and the sum from the next block's start. -/
theorem sum_block {M : Type*} [AddCommMonoid M] (f : ℕ → M) {n : ℕ} (hn : 256 * (n + 1) ≤ 16384) :
    ∑ j ∈ Finset.Ico (256 * n) 16384, f j
      = ∑ k : Fin 256, f (256 * n + k.val) + ∑ j ∈ Finset.Ico (256 * (n + 1)) 16384, f j := by
  rw [← Finset.sum_Ico_consecutive f (show 256 * n ≤ 256 * (n + 1) by omega) hn, Finset.sum_Ico_eq_sum_range,
    show 256 * (n + 1) - 256 * n = 256 by omega, ← Fin.sum_univ_eq_sum_range (fun k => f (256 * n + k)) 256]

/-- Within a block, the sum over the later keys of the block and the sum from the next block's start. -/
theorem suffix_in {n : ℕ} (hn : 256 * (n + 1) ≤ 16384) (k : Fin 256) :
    ∑ j : Fin 256, kept p z (256 * n + j.val) * (if k < j then 1 else 0) + suffix p z (256 * (n + 1))
      = suffix p z (256 * n + k.val + 1) := by
  unfold suffix
  have hk := k.isLt
  rw [← Finset.sum_Ico_consecutive (kept p z) (show 256 * n + k.val + 1 ≤ 256 * (n + 1) by omega) hn]
  congr 1
  simp only [mul_ite, mul_one, mul_zero]
  rw [← Finset.sum_filter]
  refine Finset.sum_bij (fun j _ => 256 * n + j.val) (fun j hj => ?_) (fun a _ b _ h => Fin.ext (by omega))
    (fun b hb => ?_) fun _ _ => rfl
  · have h := Fin.lt_def.1 (Finset.mem_filter.1 hj).2
    have := j.isLt
    exact Finset.mem_Ico.2 ⟨by omega, by omega⟩
  · have h := Finset.mem_Ico.1 hb
    exact ⟨⟨b - 256 * n, by omega⟩, Finset.mem_filter.2 ⟨Finset.mem_univ _, Fin.lt_def.2 (by show k.val < b - 256 * n; omega)⟩,
      by show 256 * n + (b - 256 * n) = b; omega⟩

/-- What the block `n` keeps, as extended reals. -/
def blockKept (n : ℕ) (k : Fin 256) : EReal := if 256 * n + k.val < p then keepE (z (256 * n + k.val)) else 0

theorem blockKept_eq (n : ℕ) (k : Fin 256) : blockKept p z n k = (kept p z (256 * n + k.val) : EReal) := by
  unfold blockKept kept
  split
  · exact keepE_coe _
  · rfl

/-- The running sum after block `n`. -/
theorem run_step {n : ℕ} (hn : 256 * (n + 1) ≤ 16384) :
    (suffix p z (256 * (n + 1)) : EReal) + ∑ k, blockKept p z n k = (suffix p z (256 * n) : EReal) := by
  rw [Finset.sum_congr rfl fun k _ => blockKept_eq p z n k, ← sum_coe, ← EReal.coe_add, add_comm]
  exact congrArg _ (sum_block (kept p z) hn).symm

/-- The weight of key `k` of block `n`, as the blocks compute it from the running sum. -/
theorem weight_step {n : ℕ} (hn : 256 * (n + 1) ≤ 16384) (k : Fin 256) :
    (if 256 * n + k.val < p then
      Ideal.exp (((z (256 * n + k.val) : ℝ) : EReal) + blockKept p z n k
        + (∑ j, blockKept p z n j * (if k < j then 1 else 0) + (suffix p z (256 * (n + 1)) : EReal)))
      else 0) = weight p z (256 * n + k.val) := by
  unfold weight
  split
  · have e : ∑ j, blockKept p z n j * (if k < j then 1 else 0)
        = ((∑ j : Fin 256, kept p z (256 * n + j.val) * (if k < j then 1 else 0) : ℝ) : EReal) := by
      rw [sum_coe]
      refine Finset.sum_congr rfl fun j _ => ?_
      rw [blockKept_eq, EReal.coe_mul]
      split <;> rfl
    rw [e, blockKept_eq, ← EReal.coe_add, ← EReal.coe_add, ← EReal.coe_add, suffix_in p z hn k]
    rfl
  · rfl

/-- The running weighted values after block `n`. -/
theorem part_step (v : ℕ → EReal) {n : ℕ} (hn : 256 * (n + 1) ≤ 16384) :
    part p z v (256 * (n + 1)) + ∑ k : Fin 256, weight p z (256 * n + k.val) * v (256 * n + k.val)
      = part p z v (256 * n) := by
  rw [add_comm]
  exact (sum_block (fun j => weight p z j * v j) hn).symm
end

end Cert.Stick
-- ==== Proof.SbStep.lean ====
/- One key block of the stick-breaking attention, entry by entry. -/
module

public import proofs.«01_k».proof.Proof.SbBlock
public import proofs.«01_k».proof.Proof.SbMath

@[expose] public section

set_option maxRecDepth 16384

noncomputable section

namespace Cert.KernelIdeal.Block

open Cert.KernelIdeal Cert.KernelIdeal.Gen Cert.Stick
open Idealize.ShloMosaic Idealize.ShloMosaic.TcCoe Idealize.ShloMosaic.Tactic Idealize.SL.Sem

/-- A number below 2³¹ is its word's signed value. -/
theorem toInt_ofNat {n : ℕ} (h : n < 2147483648) : (BitVec.ofNat 32 n).toInt = n := by
  rw [BitVec.toInt_ofNat']
  exact Int.bmod_eq_of_le (by omega) (by omega)

theorem slt_word {a b : ℕ} (ha : a < 2147483648) (hb : b < 2147483648) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt_eq_decide, toInt_ofNat ha, toInt_ofNat hb]
  by_cases h : a < b
  · rw [if_pos h, decide_eq_true (by omega)]; rfl
  · rw [if_neg h, decide_eq_false (by omega)]; rfl

theorem sgt_word {a b : ℕ} (ha : a < 2147483648) (hb : b < 2147483648) :
    IntOp.cmpi .sgt (BitVec.ofNat 32 a) (BitVec.ofNat 32 b) = if b < a then 1#1 else 0#1 :=
  slt_word hb ha

section step
variable (x0 : Vec Ideal S1024x128 .bf16) (kb vb : Vec Ideal S256x128 .bf16)

/-- The score of row `r` against row `k` of a key block. -/
def score (r : Fin 1024) (k : Fin 256) : EReal := ∑ e : Fin 128, x0 (ix2 r e) * kb (ix2 k e)

set_option backward.isDefEq.respectTransparency false in
theorem pay1 (r : Fin 1024) (k : Fin 256) : k0_pay1 x0 kb (ix2 r k) = score x0 kb r k := by
  pointwise [k0_pay1]
  rfl

set_option backward.isDefEq.respectTransparency false in
theorem pay2 (r : Fin 1024) (k : Fin 256) : k0_pay2 x0 kb (ix2 r k) = keepE (score x0 kb r k) := by
  pointwise [k0_pay2, k0_pay1]
  rfl

set_option backward.isDefEq.respectTransparency false in
theorem later (j k : Fin 256) : (k0_pay10 : FVec Ideal S256x256 .bf16) (ix2 j k) = if k < j then 1 else 0 := by
  pointwise [k0_pay10]
  rw [sgt_word (by omega) (by omega)]
  by_cases h : k < j
  · rw [if_pos h, if_pos (Fin.lt_def.1 h)]
    show (((1 : ℤ) : ℝ) : EReal) = 1
    simp
  · rw [if_neg h, if_neg fun h' => h (Fin.lt_def.2 h')]
    show (((0 : ℤ) : ℝ) : EReal) = 0
    simp

set_option backward.isDefEq.respectTransparency false in
theorem step_run (a : St) (r : Fin 1024) :
    (step x0 kb vb a).1 (ix2 r 0) = a.1 (ix2 r 0) + ∑ k, keepE (score x0 kb r k) := by
  unfold step
  pointwise [k0_pay4]
  exact congrArg _ (Finset.sum_congr rfl fun k _ => pay2 x0 kb r k)

set_option backward.isDefEq.respectTransparency false in
theorem step_acc (a : St) (r : Fin 1024) (d : Fin 128) :
    (step x0 kb vb a).2 (ix2 r d)
      = a.2 (ix2 r d) + ∑ k, Ideal.exp (score x0 kb r k + keepE (score x0 kb r k)
          + (∑ j, keepE (score x0 kb r j) * (if k < j then 1 else 0) + a.1 (ix2 r 0))) * vb (ix2 k d) := by
  unfold step
  pointwise [k0_pay3]
  refine congrArg _ (Finset.sum_congr rfl fun k _ => congrArg (fun a => Ideal.exp a * vb (ix2 k d)) ?_)
  refine congrArg₂ (· + ·) (congrArg₂ (· + ·) (pay1 x0 kb r k) (pay2 x0 kb r k)) (congrArg (· + a.1 (ix2 r 0)) ?_)
  exact Finset.sum_congr rfl fun j _ => congrArg₂ (· * ·) (pay2 x0 kb r j) (later j k)

set_option backward.isDefEq.respectTransparency false in
theorem seen_eq (s : Fin 4) (r : Fin 1024) (k : Fin 256) :
    seen (BitVec.ofNat 32 (256 * s.val)) (ix2 r k) = if 256 * s.val + k.val < r.val then 1#1 else 0#1 := by
  pointwise [seen]
  rw [show IntOp.addi (BitVec.ofNat 32 k.val) (BitVec.ofNat 32 (256 * s.val)) = BitVec.ofNat 32 (256 * s.val + k.val) from
    (BitVec.ofNat_add k.val (256 * s.val)).symm.trans (congrArg _ (Nat.add_comm _ _)), slt_word (by omega) (by omega)]

/-- What the keys of the diagonal's block `s` keep. -/
def dkeep (s : Fin 4) (r : Fin 1024) (k : Fin 256) : EReal :=
  if 256 * s.val + k.val < r.val then keepE (score x0 kb r k) else 0

set_option backward.isDefEq.respectTransparency false in
theorem kept_eq (s : Fin 4) (r : Fin 1024) (k : Fin 256) :
    kept (BitVec.ofNat 32 (256 * s.val)) x0 kb (ix2 r k) = dkeep x0 kb s r k := by
  pointwise [kept]
  show Scalar.select (seen (BitVec.ofNat 32 (256 * s.val)) (ix2 r k)) (k0_pay2 x0 kb (ix2 r k)) _ = _
  rw [seen_eq, pay2]
  unfold Scalar.select dkeep
  by_cases h : 256 * s.val + k.val < r.val
  · rw [if_pos h, if_pos h]; exact if_pos rfl
  · rw [if_neg h, if_neg h]; exact if_neg (by decide)

set_option backward.isDefEq.respectTransparency false in
theorem weights_eq (s : Fin 4) (run : FVec Ideal S1024x1 .f32) (r : Fin 1024) (k : Fin 256) :
    weights (BitVec.ofNat 32 (256 * s.val)) x0 kb run (ix2 r k)
      = if 256 * s.val + k.val < r.val then
          Ideal.exp (score x0 kb r k + dkeep x0 kb s r k
            + (∑ j, dkeep x0 kb s r j * (if k < j then 1 else 0) + run (ix2 r 0)))
        else 0 := by
  pointwise [weights]
  show Scalar.select (seen (BitVec.ofNat 32 (256 * s.val)) (ix2 r k)) _ _ = _
  rw [seen_eq]
  unfold Scalar.select
  by_cases h : 256 * s.val + k.val < r.val
  · rw [if_pos h, if_pos h]
    refine (if_pos rfl).trans (congrArg Ideal.exp ?_)
    refine congrArg₂ (· + ·) (congrArg₂ (· + ·) (pay1 x0 kb r k) (kept_eq x0 kb s r k)) (congrArg (· + run (ix2 r 0)) ?_)
    exact Finset.sum_congr rfl fun j _ => congrArg₂ (· * ·) (kept_eq x0 kb s r j) (later j k)
  · rw [if_neg h, if_neg h]; exact if_neg (by decide)

set_option backward.isDefEq.respectTransparency false in
theorem diag_run (s : Fin 4) (a : St) (r : Fin 1024) :
    (diag (BitVec.ofNat 32 (256 * s.val)) x0 kb vb a).1 (ix2 r 0) = a.1 (ix2 r 0) + ∑ k, dkeep x0 kb s r k := by
  unfold diag
  pointwise []
  exact congrArg _ (Finset.sum_congr rfl fun k _ => kept_eq x0 kb s r k)

set_option backward.isDefEq.respectTransparency false in
theorem diag_acc (s : Fin 4) (a : St) (r : Fin 1024) (d : Fin 128) :
    (diag (BitVec.ofNat 32 (256 * s.val)) x0 kb vb a).2 (ix2 r d)
      = a.2 (ix2 r d) + ∑ k, (if 256 * s.val + k.val < r.val then
          Ideal.exp (score x0 kb r k + dkeep x0 kb s r k
            + (∑ j, dkeep x0 kb s r j * (if k < j then 1 else 0) + a.1 (ix2 r 0)))
        else 0) * vb (ix2 k d) := by
  unfold diag
  pointwise []
  exact congrArg _ (Finset.sum_congr rfl fun k _ => congrArg (· * vb (ix2 k d)) (weights_eq x0 kb s a.1 r k))
end step

set_option backward.isDefEq.respectTransparency false in
theorem first_run (r : Fin 1024) : (k0_pay11 : FVec Ideal S1024x1 .f32) (ix2 r 0) = 0 := by
  pointwise [k0_pay11]

set_option backward.isDefEq.respectTransparency false in
theorem first_acc (r : Fin 1024) (d : Fin 128) : (k0_pay12 : FVec Ideal S1024x128 .f32) (ix2 r d) = 0 := by
  pointwise [k0_pay12]

end Cert.KernelIdeal.Block
-- ==== Proof.SbRow.lean ====
/- What one grid point of the stick-breaking attention computes, row by row: the two running arrays over the diagonal's
   blocks and the blocks before them end at the attention over all keys. -/
module

public import proofs.«01_k».proof.Proof.SbStep

@[expose] public section

set_option maxRecDepth 16384

noncomputable section

namespace Cert.KernelIdeal.Block

open Cert.KernelIdeal Cert.KernelIdeal.Gen Cert.Stick
open Idealize.ShloMosaic Idealize.ShloMosaic.TcCoe Idealize.ShloMosaic.Tactic Idealize.SL.Sem

section row
variable (x0 : Vec Ideal S1024x128 .bf16) (x1 x2 : Vec Ideal S16384x128 .bf16) (i : ℕ) (hi : i < 16) (r : Fin 1024)
  (z : ℕ → ℝ)

/-- Column `d` of the values, by key number. -/
def col (d : Fin 128) (κ : ℕ) : EReal := x2 (ix2 ⟨κ % 16384, Nat.mod_lt _ (by decide)⟩ d)

/-- The state holds, at row `r`, the running sums over the keys from `κ` on. -/
def Holds (a : St) (κ : ℕ) : Prop :=
  a.1 (ix2 r 0) = (suffix (1024 * i + r.val) z κ : EReal)
    ∧ ∀ d, a.2 (ix2 r d) = part (1024 * i + r.val) z (col x2 d) κ

variable (hz : ∀ n k, score x0 (rows x1 n) r k = (z (256 * n + k.val) : EReal))

include hz in
theorem dkeep_eq (s : Fin 4) (k : Fin 256) :
    dkeep x0 (rows x1 (4 * i + s.val)) s r k = blockKept (1024 * i + r.val) z (4 * i + s.val) k := by
  unfold dkeep blockKept
  rw [hz]
  exact if_congr (by omega) rfl rfl

include hz hi in
/-- A block of the diagonal takes the sums from the next block's start to its own. -/
theorem diag_holds (s : Fin 4) (a : St) (h : Holds x2 i r z a (256 * (4 * i + s.val + 1))) :
    Holds x2 i r z (diag (BitVec.ofNat 32 (256 * s.val)) x0 (rows x1 (4 * i + s.val)) (rows x2 (4 * i + s.val)) a)
      (256 * (4 * i + s.val)) := by
  have hn : 256 * (4 * i + s.val + 1) ≤ 16384 := by omega
  refine ⟨?_, fun d => ?_⟩
  · rw [diag_run, h.1, Finset.sum_congr rfl fun k _ => dkeep_eq x0 x1 i r z hz s k]
    exact run_step _ z hn
  · rw [diag_acc, h.1, h.2 d, ← part_step _ z _ hn]
    refine congrArg _ (Finset.sum_congr rfl fun k _ => ?_)
    rw [← weight_step _ z hn k]
    refine congrArg₂ (· * ·) ?_ rfl
    rw [hz, dkeep_eq x0 x1 i r z hz s k, Finset.sum_congr rfl fun j _ => congrArg (· * _) (dkeep_eq x0 x1 i r z hz s j)]
    exact if_congr (by omega) rfl rfl

include hz hi in
/-- So does a block before the diagonal. -/
theorem step_holds (n : ℕ) (hn : n < 4 * i) (a : St) (h : Holds x2 i r z a (256 * (n + 1))) :
    Holds x2 i r z (step x0 (rows x1 n) (rows x2 n) a) (256 * n) := by
  have hn' : 256 * (n + 1) ≤ 16384 := by omega
  have e : ∀ k : Fin 256, keepE (score x0 (rows x1 n) r k) = blockKept (1024 * i + r.val) z n k := fun k => by
    unfold blockKept
    rw [hz, if_pos (by omega)]
  refine ⟨?_, fun d => ?_⟩
  · rw [step_run, h.1, Finset.sum_congr rfl fun k _ => e k]
    exact run_step _ z hn'
  · rw [step_acc, h.1, h.2 d, ← part_step _ z _ hn']
    refine congrArg _ (Finset.sum_congr rfl fun k _ => ?_)
    rw [← weight_step _ z hn' k, if_pos (show 256 * n + k.val < 1024 * i + r.val by omega)]
    refine congrArg₂ (· * ·) ?_ rfl
    rw [e, hz, Finset.sum_congr rfl fun j _ => congrArg (· * _) (e j)]

include hz hi in
theorem start_holds : Holds x2 i r z (start x0 x1 x2 i) (256 * (4 * i)) := by
  have h4 : Holds x2 i r z (k0_pay11, k0_pay12) (256 * (4 * i + 3 + 1)) :=
    ⟨by rw [suffix_of_le _ z (by omega)]; exact first_run r,
      fun d => by rw [part_of_le _ z _ (by omega)]; exact first_acc r d⟩
  have h3 := diag_holds x0 x1 x2 i hi r z hz 3 _ h4
  have h2 := diag_holds x0 x1 x2 i hi r z hz 2 _ h3
  have h1 := diag_holds x0 x1 x2 i hi r z hz 1 _ h2
  exact diag_holds x0 x1 x2 i hi r z hz 0 _ h1

include hz hi in
theorem state_holds (n : ℕ) (hn : n ≤ 4 * i) : Holds x2 i r z (state x0 x1 x2 i n) (256 * (4 * i - n)) := by
  induction n with
  | zero => exact start_holds x0 x1 x2 i hi r z hz
  | succ n ih =>
    have := ih (by omega)
    rw [show 4 * i - (n + 1) = 4 * i - 1 - n by omega]
    refine step_holds x0 x1 x2 i hi r z hz (4 * i - 1 - n) (by omega) _ ?_
    rwa [show 4 * i - 1 - n + 1 = 4 * i - n by omega]

set_option backward.isDefEq.respectTransparency false in
include hz hi in
/-- With real scores, what the grid point stores is the stick-breaking attention of the row's query. -/
theorem point_attn (d : Fin 128) :
    k0_pay9 (state x0 x1 x2 i (4 * i)).2 (ix2 r d) = attn (1024 * i + r.val) z (col x2 d) := by
  have h := (state_holds x0 x1 x2 i hi r z hz (4 * i) le_rfl).2 d
  rw [Nat.sub_self] at h
  exact h
end row

end Cert.KernelIdeal.Block
-- ==== Proof.SbArray.lean ====
/- The array the stick-breaking attention leaves: each entry is the attention of its query, head and column, read from
   the call's argument. -/
module

public import proofs.«01_k».proof.Proof.SbRow
public import proofs.«01_k».proof.Proof.Cells
public import Idealize.ShloMosaic.Lib.Pipeline.ValueKit

@[expose] public section

set_option maxRecDepth 16384

noncomputable section

namespace Cert.KernelIdeal.Block

open Cert.KernelIdeal Cert.KernelIdeal.Gen Cert.Softmax Cert.Cells
open Idealize.ShloMosaic Idealize.ShloMosaic.TcCoe Idealize.ShloMosaic.Tactic Idealize.SL.Sem

variable (m : (ℓ : Loc nD τ sig) → Buf (Elt Ideal) ℓ) (c : Dev nD)

/-- The argument: the queries, the keys and the values side by side. -/
abbrev x0 : S32768x3072.Idx → EReal := m ((c : Thread nD τ).loc main_arg0)

/-- The block indices of every point, and where it stands in the grid. -/
theorem idx : ∀ t : Fin cfg0.N, win0_0.index t = ![t.val / 128 * 16 + t.val % 16, t.val / 16 % 8]
    ∧ win0_1.index t = ![t.val / 128, 8 + t.val / 16 % 8] ∧ win0_2.index t = ![t.val / 128, 16 + t.val / 16 % 8]
    ∧ win0_3.index t = ![t.val / 128 * 16 + t.val % 16, t.val / 16 % 8]
    ∧ (grid0.coords t 2).val = t.val % 16 :=
  (by decide +kernel : ∀ t : Fin grid0.N, _)

theorem blkq (t : Fin cfg0.N) (r : Fin 1024) (e : Fin 128) : iblk m c 0 t (ix2 r e)
    = cell (x0 m c) (t.val / 128 * 16384 + (1024 * (t.val % 16) + r.val)) (t.val / 16 % 8 * 128 + e.val) := by
  obtain ⟨h, -⟩ := idx t
  refine Eq.trans ?_ (eq_cell (x0 m c) (((cfg0.win 0).blk t).view.emb (ix2 r e)) ?_ ?_)
  · blk_simp [iblk, V]
  · blk_simp [h]
    omega
  · blk_simp [h]

theorem blkk (t : Fin cfg0.N) (r : Fin 16384) (e : Fin 128) : iblk m c 1 t (ix2 r e)
    = cell (x0 m c) (t.val / 128 * 16384 + r.val) ((8 + t.val / 16 % 8) * 128 + e.val) := by
  obtain ⟨-, h, -⟩ := idx t
  refine Eq.trans ?_ (eq_cell (x0 m c) (((cfg0.win 1).blk t).view.emb (ix2 r e)) ?_ ?_)
  · blk_simp [iblk, V]
  · blk_simp [h]
  · blk_simp [h]

theorem blkv (t : Fin cfg0.N) (r : Fin 16384) (e : Fin 128) : iblk m c 2 t (ix2 r e)
    = cell (x0 m c) (t.val / 128 * 16384 + r.val) ((16 + t.val / 16 % 8) * 128 + e.val) := by
  obtain ⟨-, -, h, -⟩ := idx t
  refine Eq.trans ?_ (eq_cell (x0 m c) (((cfg0.win 2).blk t).view.emb (ix2 r e)) ?_ ?_)
  · blk_simp [iblk, V]
  · blk_simp [h]
  · blk_simp [h]

/-- The product of query `p` and key `κ` of head `h` in batch `b`, the key's number taken modulo the length. -/
def dot (x : S32768x3072.Idx → EReal) (b h p κ : ℕ) : EReal :=
  ∑ e : Fin 128, cell x (b * 16384 + p) (h * 128 + e.val) * cell x (b * 16384 + κ % 16384) ((8 + h) * 128 + e.val)

/-- The attention of every query, head and column. -/
def result (x : S32768x3072.Idx → EReal) (j : S32768x1024.Idx) : EReal :=
  Stick.attn ((j 0).val % 16384)
    (fun κ => (dot x ((j 0).val / 16384) ((j 1).val / 128) ((j 0).val % 16384) κ).toReal)
    (fun κ => cell x ((j 0).val / 16384 * 16384 + κ) ((16 + (j 1).val / 128) * 128 + (j 1).val % 128))

theorem result_eq (x : S32768x3072.Idx → EReal) {j : S32768x1024.Idx} {b h p d : ℕ}
    (h0 : (j 0).val = b * 16384 + p) (hp : p < 16384) (h1 : (j 1).val = h * 128 + d) (hd : d < 128) :
    result x j = Stick.attn p (fun κ => (dot x b h p κ).toReal) (fun κ => cell x (b * 16384 + κ) ((16 + h) * 128 + d)) := by
  unfold result
  rw [h0, h1, show (b * 16384 + p) / 16384 = b by omega, show (b * 16384 + p) % 16384 = p by omega,
    show (h * 128 + d) / 128 = h by omega, show (h * 128 + d) % 128 = d by omega]

/-- Two columns of values that agree below the length are weighted alike. -/
theorem attn_congr (p : ℕ) (z : ℕ → ℝ) {v w : ℕ → EReal} (h : ∀ κ, κ < 16384 → v κ = w κ) :
    Stick.attn p z v = Stick.attn p z w := by
  unfold Stick.attn Stick.part
  exact Finset.sum_congr rfl fun κ hκ => congrArg (fun a => Stick.weight p z κ * a) (h κ (Finset.mem_Ico.1 hκ).2)

/-- With real entries in the queries and the keys every product of a query and a key is real. -/
theorem dot_real (x : S32768x3072.Idx → EReal) (hx : ∀ j : S32768x3072.Idx, (j 1).val < 2048 → ∃ z : ℝ, x j = (z : EReal))
    (b h p κ : ℕ) (hh : h < 8) : dot x b h p κ = ((dot x b h p κ).toReal : EReal) := by
  choose y hy using fun e : Fin 128 => hx (ix2 (Fin.ofNat _ (b * 16384 + p)) (Fin.ofNat _ (h * 128 + e.val)))
    (by show (h * 128 + e.val) % 3072 < 2048; have := e.isLt; omega)
  choose w hw using fun e : Fin 128 => hx (ix2 (Fin.ofNat _ (b * 16384 + κ % 16384)) (Fin.ofNat _ ((8 + h) * 128 + e.val)))
    (by show ((8 + h) * 128 + e.val) % 3072 < 2048; have := e.isLt; omega)
  have e : dot x b h p κ = ((∑ e, y e * w e : ℝ) : EReal) := by
    rw [sum_coe]
    refine Finset.sum_congr rfl fun e _ => ?_
    rw [EReal.coe_mul, ← hy, ← hw]
    rfl
  rw [e, EReal.toReal_coe]

variable (hx : ∀ j : S32768x3072.Idx, (j 1).val < 2048 → ∃ z : ℝ, x0 m c j = (z : EReal))

include hx in
/-- What a grid point stores at row `r`, column `d` of its block. -/
theorem point (t : Fin cfg0.N) (r : Fin 1024) (d : Fin 128) :
    k0_pay9 (state (iblk m c 0 t) (iblk m c 1 t) (iblk m c 2 t) (t.val % 16) (4 * (t.val % 16))).2 (ix2 r d)
      = Stick.attn (1024 * (t.val % 16) + r.val)
          (fun κ => (dot (x0 m c) (t.val / 128) (t.val / 16 % 8) (1024 * (t.val % 16) + r.val) κ).toReal)
          (fun κ => cell (x0 m c) (t.val / 128 * 16384 + κ) ((16 + t.val / 16 % 8) * 128 + d.val)) := by
  have key := point_attn (iblk m c 0 t) (iblk m c 1 t) (iblk m c 2 t) (t.val % 16) (Nat.mod_lt _ (by decide)) r
    (fun κ => (dot (x0 m c) (t.val / 128) (t.val / 16 % 8) (1024 * (t.val % 16) + r.val) κ).toReal)
    (fun n k => by
      rw [← dot_real (x0 m c) hx _ _ _ _ (Nat.mod_lt _ (by decide))]
      refine Finset.sum_congr rfl fun e _ => ?_
      rw [blkq]
      refine congrArg (_ * ·) ?_
      exact blkk m c t ⟨(256 * n + k.val) % 16384, Nat.mod_lt _ (by decide)⟩ e) d
  refine key.trans (attn_congr _ _ fun κ hκ => ?_)
  refine (blkv m c t ⟨κ % 16384, Nat.mod_lt _ (by decide)⟩ d).trans ?_
  show cell _ (_ + κ % 16384) _ = _
  rw [Nat.mod_eq_of_lt hκ]

include hx in
/-- The output array is the attention of the argument. -/
theorem final : (dats m 0 c).arrAt 3 (cfgs 0).N = result (x0 m c) := by
  refine (dats m 0 c).arrAt_eq_of_covers 3 _ (by decide +kernel) fun t _ y => ?_
  blk_simp
  rw [after0_3]
  unfold outsAt0
  rw [out]
  obtain ⟨-, -, -, h, hc⟩ := idx t
  have hr : (y 0).val < 1024 := (y 0).isLt
  have hd : (y 1).val < 128 := (y 1).isLt
  have key := point m c hx t ⟨(y 0).val, hr⟩ ⟨(y 1).val, hd⟩
  have ht : t.val < 256 := t.isLt
  have e0 : ((((cfg0.win 3).blk t).view.emb y) 0).val = (t.val / 128 * 16 + t.val % 16) * 1024 + (y 0).val := by
    blk_simp [h]
  have e1 : ((((cfg0.win 3).blk t).view.emb y) 1).val = t.val / 16 % 8 * 128 + (y 1).val := by
    blk_simp [h]
  rw [hc]
  have ey : y = ix2 ⟨(y 0).val, hr⟩ ⟨(y 1).val, hd⟩ := by
    funext a; match a with | ⟨0, _⟩ => rfl | ⟨1, _⟩ => rfl
  refine Eq.trans (congrArg _ ey) (key.trans ?_)
  refine (result_eq (x0 m c) (j := ((cfg0.win 3).blk t).view.emb y) ?_ ?_ ?_ ?_).symm
  · rw [e0]; dsimp only; omega
  · dsimp only; omega
  · rw [e1]
  · exact hd

end Cert.KernelIdeal.Block
-- ==== Proof.Cumsum.lean ====
/- The host's running sum along the last axis, taken from the end: a window as long as the axis, padded after it, reads at
   each position the sum of the entries from there on. -/
module

public import Idealize.ShloMosaic.PureOps.Ideal
public import Idealize.ShloMosaic.Lib.Pointwise

@[expose] public section

noncomputable section

namespace Cert.Cumsum

open Idealize.ShloMosaic

/-- A fold that adds is the initial value plus the sum. -/
theorem foldl_add {α : Type*} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The positions of a window that is long along the last axis alone. -/
def along (n : ℕ) : Fin n ≃ Shape.Idx ⟨4, ![1, 1, 1, n]⟩ where
  toFun k := ix4 0 0 0 k
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A sum over offsets, cut where the position leaves the range, is the sum over the positions. -/
theorem sum_offsets (y : ℕ → EReal) {n : ℕ} (k : ℕ) (hk : k < n) :
    ∑ j : Fin n, (if k + j.val < n then y (k + j.val) else 0) = ∑ j ∈ Finset.Ico k n, y j := by
  rw [Fin.sum_univ_eq_sum_range (fun j => if k + j < n then y (k + j) else 0) n, Finset.sum_Ico_eq_sum_range,
    ← Finset.sum_filter]
  refine Finset.sum_congr ?_ fun _ _ => rfl
  ext j
  simp only [Finset.mem_filter, Finset.mem_range]
  omega

/-- The sum of the entries from a position on. -/
theorem reverse {A B C n m : ℕ} (x : Shape.Idx ⟨4, ![A, B, C, n]⟩ → EReal) (y : ℕ → EReal) {u : Shape} (h) (hu : 0 < u.numel)
    (a : Fin A) (b : Fin B) (c : Fin C) (k : Fin n) (hy : ∀ j : Fin n, x (ix4 a b c j) = y j.val) :
    Host.reduceWindow (s := ⟨4, ![A, B, C, n]⟩) (t := ⟨4, ![A, B, C, n]⟩) (u := u) (· + ·) ![1, 1, 1, n] ![1, 1, 1, 1]
        ![0, 0, 0, 0] ![0, 0, 0, m] x (fun _ => (0 : EReal)) h hu (ix4 a b c k)
      = ∑ j ∈ Finset.Ico k.val n, y j := by
  unfold Host.reduceWindow
  dsimp only
  rw [foldl_add, zero_add, ← Fin.sum_univ_def, ← sum_offsets y k.val k.isLt]
  refine Fintype.sum_equiv ((Shape.rowMajor ⟨4, ![1, 1, 1, n]⟩).symm.trans (along n).symm) _ _ fun i => ?_
  let w : Shape.Idx ⟨4, ![1, 1, 1, n]⟩ := (Shape.rowMajor ⟨4, ![1, 1, 1, n]⟩).symm i
  show _ = if k.val + (w 3).val < n then y (k.val + (w 3).val) else 0
  have w0 : (w 0).val = 0 := by have : (w 0).val < 1 := (w 0).isLt; omega
  have w1 : (w 1).val = 0 := by have : (w 1).val < 1 := (w 1).isLt; omega
  have w2 : (w 2).val = 0 := by have : (w 2).val < 1 := (w 2).isLt; omega
  by_cases hw : k.val + (w 3).val < n
  · rw [if_pos hw, ← hy ⟨k.val + (w 3).val, hw⟩]
    refine (dif_pos ?_).trans (congrArg x ?_)
    · intro e
      match e with
      | ⟨0, _⟩ => exact ⟨Nat.zero_le _, by show a.val * 1 + (w 0).val - 0 < A; have := a.isLt; omega⟩
      | ⟨1, _⟩ => exact ⟨Nat.zero_le _, by show b.val * 1 + (w 1).val - 0 < B; have := b.isLt; omega⟩
      | ⟨2, _⟩ => exact ⟨Nat.zero_le _, by show c.val * 1 + (w 2).val - 0 < C; have := c.isLt; omega⟩
      | ⟨3, _⟩ => exact ⟨Nat.zero_le _, by show k.val * 1 + (w 3).val - 0 < n; omega⟩
    · funext e
      match e with
      | ⟨0, _⟩ => exact Fin.ext (by show a.val * 1 + (w 0).val - 0 = a.val; omega)
      | ⟨1, _⟩ => exact Fin.ext (by show b.val * 1 + (w 1).val - 0 = b.val; omega)
      | ⟨2, _⟩ => exact Fin.ext (by show c.val * 1 + (w 2).val - 0 = c.val; omega)
      | ⟨3, _⟩ => exact Fin.ext (by show k.val * 1 + (w 3).val - 0 = k.val + (w 3).val; omega)
  · rw [if_neg hw]
    refine dif_neg fun hin => hw ?_
    have h3 : k.val * 1 + (w 3).val - 0 < n := (hin 3).2
    omega

end Cert.Cumsum
-- ==== Proof.SbRef.lean ====
/- What the reference of the stick-breaking attention computes: at each query, head and column the values weighted by the
   stick-breaking weights of the keys before the query. -/
module

public import proofs.«01_k».proof.Proof.Gen.ReferenceIdeal.Read
public import proofs.«01_k».proof.Proof.SbMath
public import proofs.«01_k».proof.Proof.Cumsum
public import proofs.«01_k».proof.Proof.Cells
public import Idealize.ShloMosaic.Lib.Pointwise

@[expose] public section

set_option maxRecDepth 16384

noncomputable section

namespace Cert.ReferenceIdeal.Entry

open Cert.ReferenceIdeal Cert.ReferenceIdeal.Gen Cert.ReferenceIdeal.Read Cert.Softmax Cert.Stick Cert.Cells
open Idealize.ShloMosaic Idealize.ShloMosaic.TcCoe Idealize.ShloMosaic.Tactic Idealize.SL.Sem

theorem zero_word : Ideal.ofBits FTy.f32 0x00000000#32 = 0 := by simp [Ideal.ofBits, Ideal.ieee]

/-- The softplus as the reference spells it. -/
def soft (y : EReal) : EReal :=
  Scalar.select (Ideal.cmp .une (y - 0) (y - 0)) (y + 0) (max y 0 + Ideal.log1p (Ideal.exp (-(max (y - 0) (-(y - 0))))))

/-- Its opposite is the logarithm kept. -/
theorem neg_soft (x : ℝ) : -(soft (x : EReal)) = (keep x : EReal) := by
  have c : Ideal.cmp .une ((x : EReal) - 0) ((x : EReal) - 0) = 0#1 := by simp [Ideal.cmp]
  unfold soft Scalar.select
  rw [c, if_neg (by decide), sub_zero, abs_coe, ← EReal.coe_neg]
  refine (congrArg (fun a => -(max (x : EReal) 0 + a)) (log_one_add_exp (-|x|))).trans ?_
  rw [← EReal.coe_zero, max_coe, ← EReal.coe_add, ← EReal.coe_neg]
  rfl

/-- The signed comparison of two words that hold small numbers. -/
theorem slt_word {a b : ℕ} (ha : a < 2147483648) (hb : b < 2147483648) :
    IntOp.cmpi .slt (BitVec.ofNat 32 a) (BitVec.ofNat 32 b) = if a < b then 1#1 else 0#1 := by
  have small : ∀ n : ℕ, n < 2147483648 → (BitVec.ofNat 32 n).toInt = (n : ℤ) := fun n hn => by
    rw [BitVec.toInt_ofNat', Int.bmod_eq_of_le] <;> omega
  show BitVec.ofBool (BitVec.slt _ _) = _
  rw [BitVec.slt_eq_decide, small a ha, small b hb]
  by_cases h : a < b
  · rw [if_pos h, decide_eq_true (by omega)]; rfl
  · rw [if_neg h, decide_eq_false (by omega)]; rfl

variable (x0 : (⟨S32768x3072, .bf16⟩ : BufTy).Contents (Elt Ideal))
variable (b : Fin 2) (h : Fin 8) (q : Fin 16384)

/-- The product of query `q` and key `κ` of head `h` in batch `b`. -/
def dot (κ : ℕ) : EReal :=
  ∑ e : Fin 128, cell x0 (b.val * 16384 + q.val) (h.val * 128 + e.val) * cell x0 (b.val * 16384 + κ) ((8 + h.val) * 128 + e.val)

theorem i3 (e : Fin 128) : idx_main_v3 (ix4 b q h e) = ix5 b q 0 h e := by
  funext a
  match a with
  | ⟨0, _⟩ => exact Fin.ext (by show (((b.val * 16384 + q.val) * 8 + h.val) * 128 + e.val) / 16777216 = b.val; omega)
  | ⟨1, _⟩ => exact Fin.ext (by show (((b.val * 16384 + q.val) * 8 + h.val) * 128 + e.val) / 1024 % 16384 = q.val; omega)
  | ⟨2, _⟩ => rfl
  | ⟨3, _⟩ => exact Fin.ext (by show (((b.val * 16384 + q.val) * 8 + h.val) * 128 + e.val) / 128 % 8 = h.val; omega)
  | ⟨4, _⟩ => exact Fin.ext (by show (((b.val * 16384 + q.val) * 8 + h.val) * 128 + e.val) % 128 = e.val; omega)

theorem v1_eq (s : Fin 3) (e : Fin 128) : val_main_v1 (F := Ideal) x0 (ix5 b q s h e)
    = cell x0 (b.val * 16384 + q.val) ((s.val * 8 + h.val) * 128 + e.val) := by
  rw [val_main_v1_apply]
  refine eq_cell x0 _ ?_ ?_
  · show ((((b.val * 16384 + q.val) * 3 + s.val) * 8 + h.val) * 128 + e.val) / 3072 = _
    omega
  · show ((((b.val * 16384 + q.val) * 3 + s.val) * 8 + h.val) * 128 + e.val) % 3072 = _
    omega

theorem v3_eq (e : Fin 128) : val_main_v3 (F := Ideal) x0 (ix4 b q h e)
    = cell x0 (b.val * 16384 + q.val) (h.val * 128 + e.val) := by
  rw [val_main_v3_apply, i3, val_main_v2_apply]
  refine Eq.trans (congrArg _ ?_) ((v1_eq x0 b h q 0 e).trans ?_)
  · funext a; match a with | ⟨0, _⟩ => rfl | ⟨1, _⟩ => rfl | ⟨2, _⟩ => rfl | ⟨3, _⟩ => rfl | ⟨4, _⟩ => rfl
  · exact congrArg (cell x0 _) (by show (0 * 8 + h.val) * 128 + e.val = _; omega)

theorem v5_eq (e : Fin 128) : val_main_v5 (F := Ideal) x0 (ix4 b q h e)
    = cell x0 (b.val * 16384 + q.val) ((8 + h.val) * 128 + e.val) := by
  rw [val_main_v5_apply, show idx_main_v5 (ix4 b q h e) = ix5 b q 0 h e from i3 b h q e, val_main_v4_apply]
  refine Eq.trans (congrArg _ ?_) ((v1_eq x0 b h q 1 e).trans ?_)
  · funext a; match a with | ⟨0, _⟩ => rfl | ⟨1, _⟩ => rfl | ⟨2, _⟩ => rfl | ⟨3, _⟩ => rfl | ⟨4, _⟩ => rfl
  · exact congrArg (cell x0 _) (by show (1 * 8 + h.val) * 128 + e.val = _; omega)

theorem v7_eq (e : Fin 128) : val_main_v7 (F := Ideal) x0 (ix4 b q h e)
    = cell x0 (b.val * 16384 + q.val) ((16 + h.val) * 128 + e.val) := by
  rw [val_main_v7_apply, show idx_main_v7 (ix4 b q h e) = ix5 b q 0 h e from i3 b h q e, val_main_v6_apply]
  refine Eq.trans (congrArg _ ?_) ((v1_eq x0 b h q 2 e).trans ?_)
  · funext a; match a with | ⟨0, _⟩ => rfl | ⟨1, _⟩ => rfl | ⟨2, _⟩ => rfl | ⟨3, _⟩ => rfl | ⟨4, _⟩ => rfl
  · exact congrArg (cell x0 _) (by show (2 * 8 + h.val) * 128 + e.val = _; omega)

theorem l8 (κ : Fin 16384) (e : Fin 128) : lidx_main_v8 (ix4 b h q κ) e = ix4 b q h e := by
  funext a; match a with | ⟨0, _⟩ => rfl | ⟨1, _⟩ => rfl | ⟨2, _⟩ => rfl | ⟨3, _⟩ => rfl
theorem r8 (κ : Fin 16384) (e : Fin 128) : ridx_main_v8 (ix4 b h q κ) e = ix4 b κ h e := by
  funext a; match a with | ⟨0, _⟩ => rfl | ⟨1, _⟩ => rfl | ⟨2, _⟩ => rfl | ⟨3, _⟩ => rfl

theorem v8_eq (κ : Fin 16384) : val_main_v8 (F := Ideal) x0 (ix4 b h q κ) = dot x0 b h q κ.val := by
  rw [val_main_v8_apply]
  exact Finset.sum_congr rfl fun e _ => by rw [l8, r8, v3_eq, v5_eq]

theorem v14_eq (κ : Fin 16384) : val_main_v14 (F := Ideal) (ix2 q κ) = if κ.val < q.val then 1#1 else 0#1 := by
  rw [val_main_v14_apply, val_main_v12_apply, val_main_v10_apply, val_main_v13_apply, val_main_v11_apply, val_main_v9_apply,
    val_main_v9_apply]
  exact slt_word (by have := κ.isLt; show κ.val < _; omega) (by have := q.isLt; show q.val < _; omega)

theorem call1_v1_eq (κ : Fin 16384) : val_main_call1_v1 (F := Ideal) (ix4 b h q κ) = if κ.val < q.val then 1#1 else 0#1 := by
  rw [val_main_call1_v1_apply, ← v14_eq]
  refine congrArg _ ?_
  funext a; match a with | ⟨0, _⟩ => rfl | ⟨1, _⟩ => rfl

theorem call4_v1_eq (κ : Fin 16384) : val_main_call4_v1 (F := Ideal) (ix4 b h q κ) = if κ.val < q.val then 1#1 else 0#1 := by
  rw [val_main_call4_v1_apply, ← v14_eq]
  refine congrArg _ ?_
  funext a; match a with | ⟨0, _⟩ => rfl | ⟨1, _⟩ => rfl

section
variable (i : S2x8x16384x16384.Idx)

theorem call0_v1_eq : val_main_call0_v1 (F := Ideal) x0 i = soft (-(-(val_main_v8 (F := Ideal) x0 i))) := by
  rw [val_main_call0_v1_apply, val_main_call0_call0_v4_apply, val_main_call0_call0_v6_apply,
    val_main_call0_call0_v11_apply, val_main_call0_call0_v10_apply, val_main_call0_call0_v9_apply,
    val_main_call0_call0_v8_apply, val_main_call0_call0_v7_apply, val_main_call0_call0_v3_apply,
    val_main_call0_call0_v1_apply, val_main_call0_call0_v0_apply, val_main_call0_call0_v2_apply,
    val_main_call0_call0_v5_apply, val_main_call0_call0_cst_apply, val_main_call0_v0_apply, val_main_v15_apply,
    show (FloatOps.ofBits .f32 0x00000000#32 : Ideal .f32) = (0 : EReal) from zero_word]
  generalize val_main_v8 (F := Ideal) x0 i = y
  rfl

theorem call3_v1_eq : val_main_call3_v1 (F := Ideal) x0 i = soft (-(val_main_v8 (F := Ideal) x0 i)) := by
  rw [val_main_call3_v1_apply, val_main_call3_call0_v4_apply, val_main_call3_call0_v6_apply,
    val_main_call3_call0_v11_apply, val_main_call3_call0_v10_apply, val_main_call3_call0_v9_apply,
    val_main_call3_call0_v8_apply, val_main_call3_call0_v7_apply, val_main_call3_call0_v3_apply,
    val_main_call3_call0_v1_apply, val_main_call3_call0_v0_apply, val_main_call3_call0_v2_apply,
    val_main_call3_call0_v5_apply, val_main_call3_call0_cst_apply, val_main_call3_v0_apply,
    show (FloatOps.ofBits .f32 0x00000000#32 : Ideal .f32) = (0 : EReal) from zero_word]
  generalize val_main_v8 (F := Ideal) x0 i = y
  rfl

theorem call1_v2_eq : val_main_call1_v2 (F := Ideal) i = (0 : EReal) := by
  rw [val_main_call1_v2_apply, val_main_call1_v0_apply, val_main_cst_apply]
  exact zero_word

theorem call4_v2_eq : val_main_call4_v2 (F := Ideal) i = (0 : EReal) := by
  rw [val_main_call4_v2_apply, val_main_call4_v0_apply, val_main_cst_0_apply]
  exact zero_word
end

section
variable (z : ℕ → ℝ) (hz : ∀ κ : Fin 16384, dot x0 b h q κ.val = (z κ.val : EReal))
include hz

theorem v16_eq (κ : Fin 16384) : val_main_v16 (F := Ideal) x0 (ix4 b h q κ) = (keep (z κ.val) : EReal) := by
  rw [val_main_v16_apply, call0_v1_eq, v8_eq, hz, neg_neg]
  exact neg_soft _

theorem v20_eq (κ : Fin 16384) : val_main_v20 (F := Ideal) x0 (ix4 b h q κ) = ((z κ.val + keep (z κ.val) : ℝ) : EReal) := by
  rw [val_main_v20_apply, call3_v1_eq, v8_eq, hz, ← EReal.coe_neg, ← keep_neg]
  exact neg_soft _

theorem v17_eq (κ : Fin 16384) : val_main_v17 (F := Ideal) x0 (ix4 b h q κ) = (kept q.val z κ.val : EReal) := by
  rw [val_main_v17_apply, call1_v1_eq, v16_eq x0 b h q z hz, call1_v2_eq]
  unfold Scalar.select kept
  by_cases hk : κ.val < q.val
  · rw [if_pos hk, if_pos hk]; exact if_pos rfl
  · rw [if_neg hk, if_neg hk]; exact if_neg (by decide)

theorem v18_eq (κ : Fin 16384) : val_main_v18 (F := Ideal) x0 (ix4 b h q κ) = (suffix q.val z κ.val : EReal) := by
  have e0 : val_main_call2_v0 (F := Ideal) = fun _ => (0 : EReal) := funext fun i => by
    rw [val_main_call2_v0_apply, val_main_call2_cst_apply]
    exact zero_word
  have key := Cert.Cumsum.reverse (A := 2) (B := 8) (C := 16384) (n := 16384) (m := 16383) (u := S_)
    (val_main_v17 (F := Ideal) x0) (fun j => (kept q.val z j : EReal))
    reduceWindows_S2x8x16384x16384_S2x8x16384x16384_w1s1p0_0_w1s1p0_0_w1s1p0_0_w16384s1p0_16383 h_S_ b h q κ
    (v17_eq x0 b h q z hz)
  unfold val_main_v18 suffix
  rw [e0, sum_coe]
  unfold Host.reduceWindowAdd
  rw [Ideal.hostReduceWindowAdd_def]
  exact key

theorem v19_eq (κ : Fin 16384) : val_main_v19 (F := Ideal) x0 (ix4 b h q κ) = (suffix q.val z (κ.val + 1) : EReal) := by
  rw [val_main_v19_apply, v18_eq x0 b h q z hz, v17_eq x0 b h q z hz]
  refine (EReal.coe_sub _ _).symm.trans (congrArg Real.toEReal ?_)
  unfold suffix
  rw [Finset.sum_eq_sum_Ico_succ_bot κ.isLt, add_sub_cancel_left]

theorem v23_eq (κ : Fin 16384) : val_main_v23 (F := Ideal) x0 (ix4 b h q κ) = weight q.val z κ.val := by
  rw [val_main_v23_apply, call4_v1_eq, call4_v2_eq, val_main_v22_apply, val_main_v21_apply, v20_eq x0 b h q z hz,
    v19_eq x0 b h q z hz]
  unfold Scalar.select weight kept
  by_cases hk : κ.val < q.val
  · rw [if_pos hk, if_pos hk, if_pos hk]; exact if_pos rfl
  · rw [if_neg hk, if_neg hk]; exact if_neg (by decide)

theorem v24_eq (d : Fin 128) : val_main_v24 (F := Ideal) x0 (ix4 b h d q)
    = Stick.attn q.val z fun κ => cell x0 (b.val * 16384 + κ) ((16 + h.val) * 128 + d.val) := by
  unfold Stick.attn part
  rw [val_main_v24_apply, ← Finset.range_eq_Ico, ← Fin.sum_univ_eq_sum_range
    (fun κ => weight q.val z κ * cell x0 (b.val * 16384 + κ) ((16 + h.val) * 128 + d.val)) 16384]
  refine Finset.sum_congr rfl fun κ _ => ?_
  have e1 : lidx_main_v24 (ix4 b h d q) κ = ix4 b κ h d := by
    funext a; match a with | ⟨0, _⟩ => rfl | ⟨1, _⟩ => rfl | ⟨2, _⟩ => rfl | ⟨3, _⟩ => rfl
  have e2 : ridx_main_v24 (ix4 b h d q) κ = ix4 b h q κ := by
    funext a; match a with | ⟨0, _⟩ => rfl | ⟨1, _⟩ => rfl | ⟨2, _⟩ => rfl | ⟨3, _⟩ => rfl
  rw [e1, e2, v7_eq, v23_eq x0 b h q z hz, mul_comm]

/-- An entry of the reference's result is the stick-breaking attention of its query, head and column. -/
theorem entry (d : Fin 128) (j : S32768x1024.Idx) (h0 : (j 0).val = b.val * 16384 + q.val)
    (h1 : (j 1).val = h.val * 128 + d.val) : val_main_v27 (F := Ideal) x0 j
      = Stick.attn q.val z fun κ => cell x0 (b.val * 16384 + κ) ((16 + h.val) * 128 + d.val) := by
  rw [← v24_eq x0 b h q z hz, val_main_v27_apply, val_main_v26_apply, val_main_v25_apply]
  have e1 : idx_main_v25 (idx_main_v26 j) = ix4 b h d q := by
    funext a
    match a with
    | ⟨0, _⟩ => exact Fin.ext (by show ((j 0).val * 1024 + (j 1).val) / 16777216 = b.val; omega)
    | ⟨1, _⟩ => exact Fin.ext (by show ((j 0).val * 1024 + (j 1).val) / 128 % 8 = h.val; omega)
    | ⟨2, _⟩ => exact Fin.ext (by show ((j 0).val * 1024 + (j 1).val) % 128 = d.val; omega)
    | ⟨3, _⟩ => exact Fin.ext (by show ((j 0).val * 1024 + (j 1).val) / 1024 % 16384 = q.val; omega)
  rw [e1]
  rfl
end

end Cert.ReferenceIdeal.Entry
-- ==== Proof.SbClaim.lean ====
/- The equation of the stick-breaking attention: the kernel's array is the reference's result. -/
module

public import proofs.«01_k».proof.Defs
public import proofs.«01_k».proof.Proof.SbArray
public import proofs.«01_k».proof.Proof.SbRef
public import proofs.«01_k».proof.Proof.Real

@[expose] public section

set_option maxRecDepth 16384

noncomputable section

namespace Cert.Sb

open Cert.KernelIdeal.Block Cert.Cells
open Idealize.ShloMosaic Idealize.ShloMosaic.TcCoe Idealize.SL.Sem

/-- The reference's result is the attention of its argument. -/
theorem ref_eq (x : Cert.KernelIdeal.S32768x3072.Idx → EReal)
    (hx : ∀ j : Cert.KernelIdeal.S32768x3072.Idx, (j 1).val < 2048 → ∃ z : ℝ, x j = (z : EReal)) :
    Cert.ReferenceIdeal.Read.val_main_v27 (F := Ideal) x = result x := by
  funext j
  have h0 : (j 0).val < 32768 := (j 0).isLt
  have h1 : (j 1).val < 1024 := (j 1).isLt
  refine Cert.ReferenceIdeal.Entry.entry x ⟨(j 0).val / 16384, by omega⟩ ⟨(j 1).val / 128, by omega⟩
    ⟨(j 0).val % 16384, by omega⟩ _ (fun κ => ?_) ⟨(j 1).val % 128, by omega⟩ j (by dsimp only; omega) (by dsimp only; omega)
  rw [← dot_real x hx _ _ _ _ (by omega)]
  unfold dot
  rw [Nat.mod_eq_of_lt κ.isLt]
  rfl

/-- The claim: the stick-breaking attention kernel computes its reference. -/
theorem algebraic : @Cert.algebraic_KernelIdeal_ReferenceIdeal_pre_finite Cert.KernelIdeal.Gen.facts
    Cert.ReferenceIdeal.Gen.facts Cert.Finite.facts := by
  intro m g m' g' hpre hagree
  have real := fun c => Cert.Finite.real_of_finite _ (hpre c)
  refine ⟨fun c => result (x0 m c), ?_, ?_⟩
  · refine (θ_run Cert.KernelIdeal.defs _ _).mono (fun _ h c => ⟨(h c).1.trans ?_, (h c).2⟩)
      (Cert.KernelIdeal.Value.run_blocks m g)
    exact final m c (real c)
  · refine (θ_run Cert.ReferenceIdeal.defs _ _).mono (fun _ h c => ⟨(h c).1.trans ?_, (h c).2⟩)
      (Cert.ReferenceIdeal.Value.run (F := Ideal) m' g')
    rw [Cert.ReferenceIdeal.Read.val_main_v27_eq, hagree c]
    exact ref_eq _ (real c)

end Cert.Sb
-- ==== Proof.Norm.lean ====
/- The root-mean-square normalisation of a row of 2048 entries, as both the kernels and the references compute it over the
   extended reals. -/
module

public import Idealize.ShloMosaic.Lib.Pointwise

@[expose] public section

noncomputable section

namespace Cert.Norm

open Idealize.ShloMosaic

/-- The inverse of the root of a row's mean square, the mean raised by the small constant. -/
def inv (x : Fin 2048 → EReal) : EReal :=
  Ideal.rsqrt (Ideal.div (∑ k, x k * x k) (Ideal.ofBits .f32 0x45000000#32) + Ideal.ofBits .f32 0x358637BD#32)

/-- Entry `e` of the normalised row `x` scaled by the gains `g`. -/
def norm (x g : Fin 2048 → EReal) (e : Fin 2048) : EReal := x e * inv x * g e

end Cert.Norm
-- ==== Proof.FfnBlock.lean ====
/- What the three kinds of grid point of the feed-forward kernel leave in the normalised input, in the running sum and in
   the output block. -/
module

public import proofs.«01_k».proof.Proof.Gen.Kernel3Ideal.Value
public import proofs.«01_k».proof.Proof.Norm
public import Idealize.ShloMosaic.Lib.Pipeline.ValueKit
public import Idealize.ShloMosaic.Lib.Pointwise

@[expose] public section

set_option maxRecDepth 16384

noncomputable section

namespace Cert.Kernel3Ideal.Block

open Cert.Kernel3Ideal Cert.Kernel3Ideal.Gen
open Idealize.ShloMosaic Idealize.ShloMosaic.TcCoe Idealize.ShloMosaic.Tactic Idealize.SL.Sem

theorem zero_offset : (![0, 0] : Fin 2 → ℕ) = fun _ => 0 := by funext a; fin_cases a <;> rfl

/-- Reading all of a block gives the block. -/
theorem ld_rows (φ : EltTy) (x : Vec Ideal S512x2048 φ) :
    View.ld x (Rect.unit ![0, 0] ![512, 2048] inb_S512x2048_S512x2048_0_0) = x :=
  View.ld_unit_zero (S := S512x2048) zero_offset _ x
theorem ld_gains (φ : EltTy) (x : Vec Ideal S1x2048 φ) :
    View.ld x (Rect.unit ![0, 0] ![1, 2048] inb_S1x2048_S1x2048_0_0) = x :=
  View.ld_unit_zero (S := S1x2048) zero_offset _ x
theorem ld_columns (φ : EltTy) (x : Vec Ideal S2048x512 φ) :
    View.ld x (Rect.unit ![0, 0] ![2048, 512] inb_S2048x512_S2048x512_0_0) = x :=
  View.ld_unit_zero (S := S2048x512) zero_offset _ x

section
variable (c : Dev nD) (i : grid0.Coords) (arg2 : Memref sig .tc .vmem S512x2048 .f32) (harg2 : arg2.IsWhole)
    (arg3 : Memref sig .tc .vmem S1x2048 .f32) (harg3 : arg3.IsWhole)
    (arg4 : Memref sig .tc .vmem S2048x512 .bf16) (harg4 : arg4.IsWhole)
    (arg5 : Memref sig .tc .vmem S2048x512 .bf16) (harg5 : arg5.IsWhole)
    (arg6 : Memref sig .tc .vmem S512x2048 .bf16) (harg6 : arg6.IsWhole)
    (arg7 : Memref sig .tc .vmem S1x2048 .f32) (harg7 : arg7.IsWhole)
    (arg8 : Memref sig .tc .vmem S512x2048 .f32) (harg8 : arg8.IsWhole)
    (arg9 : Memref sig .tc .vmem S512x2048 .bf16) (harg9 : arg9.IsWhole)
    (arg10 : Memref sig .tc .vmem S512x2048 .f32) (harg10 : arg10.IsWhole)
    (x0 : Vec Ideal S512x2048 .f32) (x1 : Vec Ideal S1x2048 .f32) (x2 x3 : Vec Ideal S2048x512 .bf16)
    (x4 : Vec Ideal S512x2048 .bf16) (x5 : Vec Ideal S1x2048 .f32) (xs0 : Vec Ideal S512x2048 .bf16)
    (xs1 : Vec Ideal S512x2048 .f32)

/-- The first point of a row block normalises its rows. -/
theorem first_norm (hc0 hc1) : sout0_A_0 c i arg2 harg2 arg3 harg3 arg4 harg4 arg5 harg5 arg6 harg6 arg7 harg7 arg8 harg8
    arg9 harg9 arg10 harg10 hc0 hc1 x0 x1 x2 x3 x4 x5 = k0_pay1 x0 x1 := by
  unfold sout0_A_0
  refine (View.read_writes_eq_canon _ _ _ (scover0_A_0 c i arg2 harg2 arg3 harg3 arg4 harg4 arg5 harg5 arg6 harg6 arg7
    harg7 arg8 harg8 arg9 harg9 arg10 harg10 hc0 hc1 x0 x1 x2 x3 x4 x5)).trans ?_
  unfold kernelRun0_A
  dsimp only
  sl_unfold_words
  simp only [View.readAt_eq_ld, harg2.read_unread, harg3.read_unread, harg4.read_unread, harg5.read_unread]
  refine (View.canon_unit_zero (S := S512x2048) zero_offset _ _).trans ?_
  rw [ld_rows, ld_gains]

/-- It starts the running sum with the first block of hidden units. -/
theorem first_sum (hc0 hc1) : sout0_A_1 c i arg2 harg2 arg3 harg3 arg4 harg4 arg5 harg5 arg6 harg6 arg7 harg7 arg8 harg8
    arg9 harg9 arg10 harg10 hc0 hc1 x0 x1 x2 x3 x4 x5 = k0_pay3 (F := Ideal) (k0_pay1 x0 x1) x2 x3 (k0_pay2 (F := Ideal)) x4 := by
  unfold sout0_A_1
  refine (View.read_writes_eq_canon _ _ _ (scover0_A_1 c i arg2 harg2 arg3 harg3 arg4 harg4 arg5 harg5 arg6 harg6 arg7
    harg7 arg8 harg8 arg9 harg9 arg10 harg10 hc0 hc1 x0 x1 x2 x3 x4 x5)).trans ?_
  unfold kernelRun0_A
  dsimp only
  sl_unfold_words
  simp only [View.readAt_eq_ld, harg2.read_unread, harg3.read_unread, harg4.read_unread, harg5.read_unread,
    harg6.read_unread]
  refine (View.canon_cons_unit_zero (S := S512x2048) zero_offset _ _ _).trans ?_
  rw [View.readCov_cons_toLoadRect, View.readCov_cons_toLoadRect, ld_rows, ld_rows, ld_columns, ld_columns, ld_gains]

/-- A middle point adds its block of hidden units. -/
theorem next_sum (hc0 hc1) : sout0_B_1 c i arg2 harg2 arg3 harg3 arg4 harg4 arg5 harg5 arg6 harg6 arg7 harg7 arg8 harg8
    arg9 harg9 arg10 harg10 hc0 hc1 x0 x1 x2 x3 x4 x5 xs0 xs1 = k0_pay3 xs0 x2 x3 xs1 x4 := by
  unfold sout0_B_1
  refine (View.read_writes_eq_canon _ _ _ (scover0_B_1 c i arg2 harg2 arg3 harg3 arg4 harg4 arg5 harg5 arg6 harg6 arg7
    harg7 arg8 harg8 arg9 harg9 arg10 harg10 hc0 hc1 x0 x1 x2 x3 x4 x5 xs0 xs1)).trans ?_
  unfold kernelRun0_B
  dsimp only
  sl_unfold_words
  simp only [View.readAt_eq_ld, harg2.read_unread, harg3.read_unread, harg4.read_unread, harg5.read_unread,
    harg6.read_unread, harg9.read_unread, harg10.read_unread]
  refine (View.canon_unit_zero (S := S512x2048) zero_offset _ _).trans ?_
  rw [ld_rows, ld_rows, ld_rows, ld_columns, ld_columns]

/-- The last point adds its block, normalises the sum and adds it to the rows. -/
theorem last_out (hc0 hc1) : out0_C_6 c i arg2 harg2 arg3 harg3 arg4 harg4 arg5 harg5 arg6 harg6 arg7 harg7 arg8 harg8
    arg9 harg9 arg10 harg10 hc0 hc1 x0 x1 x2 x3 x4 x5 xs0 xs1 = k0_pay4 x0 (k0_pay3 xs0 x2 x3 xs1 x4) x5 := by
  unfold out0_C_6
  refine (View.read_writes_eq_canon _ _ _ (cover0_C_6 c i arg2 harg2 arg3 harg3 arg4 harg4 arg5 harg5 arg6 harg6 arg7
    harg7 arg8 harg8 arg9 harg9 arg10 harg10 hc0 hc1 x0 x1 x2 x3 x4 x5 xs0 xs1)).trans ?_
  unfold kernelRun0_C
  dsimp only
  sl_unfold_words
  simp only [View.readAt_eq_ld, harg2.read_unread, harg3.read_unread, harg4.read_unread, harg5.read_unread,
    harg6.read_unread, harg7.read_unread, harg9.read_unread, harg10.read_unread]
  refine (View.canon_unit_zero (S := S512x2048) zero_offset _ _).trans ?_
  rw [View.readCov_cons_toLoadRect, ld_rows, ld_rows, ld_rows, ld_rows, ld_columns, ld_columns, ld_gains]
end

set_option backward.isDefEq.respectTransparency false in
theorem pay1 (x : Vec Ideal S512x2048 .f32) (g : Vec Ideal S1x2048 .f32) (r : Fin 512) (e : Fin 2048) :
    k0_pay1 x g (ix2 r e) = Norm.norm (fun e => x (ix2 r e)) (fun e => g (ix2 0 e)) e := by
  pointwise [k0_pay1]
  rfl

set_option backward.isDefEq.respectTransparency false in
theorem pay2 (r : Fin 512) (e : Fin 2048) : (k0_pay2 : FVec Ideal S512x2048 .f32) (ix2 r e) = 0 := by
  pointwise [k0_pay2]

set_option backward.isDefEq.respectTransparency false in
theorem pay3 (u : Vec Ideal S512x2048 .bf16) (a b : Vec Ideal S2048x512 .bf16) (s : Vec Ideal S512x2048 .f32)
    (d : Vec Ideal S512x2048 .bf16) (r : Fin 512) (e : Fin 2048) :
    k0_pay3 u a b s d (ix2 r e) = s (ix2 r e) + ∑ k : Fin 512,
      (∑ p : Fin 2048, u (ix2 r p) * a (ix2 p k)) * Ideal.logistic (∑ p : Fin 2048, u (ix2 r p) * a (ix2 p k))
          * (∑ p : Fin 2048, u (ix2 r p) * b (ix2 p k))
        * d (ix2 k e) := by
  pointwise [k0_pay3]

set_option backward.isDefEq.respectTransparency false in
theorem pay4 (h s : Vec Ideal S512x2048 .f32) (g : Vec Ideal S1x2048 .f32) (r : Fin 512) (e : Fin 2048) :
    k0_pay4 h s g (ix2 r e) = h (ix2 r e) + Norm.norm (fun e => s (ix2 r e)) (fun e => g (ix2 0 e)) e := by
  pointwise [k0_pay4]
  rfl

end Cert.Kernel3Ideal.Block
-- ==== Proof.Ffn.lean ====
/- The gated feed-forward layer, entry by entry: the row normalised, the gated hidden units, their projection, normalised
   and added to the row. -/
module

public import proofs.«01_k».proof.Proof.Norm
public import proofs.«01_k».proof.Proof.Cells

@[expose] public section

noncomputable section

namespace Cert.Ffn

open Idealize.ShloMosaic Cert.Norm Cert.Cells

abbrev Rows : Type := Shape.Idx ⟨2, ![32768, 2048]⟩ → EReal
abbrev Gains : Type := Shape.Idx ⟨2, ![1, 2048]⟩ → EReal
abbrev Up : Type := Shape.Idx ⟨2, ![2048, 11264]⟩ → EReal
abbrev Down : Type := Shape.Idx ⟨2, ![5632, 2048]⟩ → EReal

variable (x : Rows) (g : Gains) (w : Up) (v : Down) (q : Gains)

/-- Entry `e` of the normalised row `R`. -/
def input (R : ℕ) (e : Fin 2048) : EReal := norm (fun e => cell x R e.val) (fun e => cell g 0 e.val) e

/-- The normalised row `R` against column `n` of the first projection. -/
def pre (R n : ℕ) : EReal := ∑ p : Fin 2048, input x g R p * cell w p.val n

/-- Hidden unit `k` of row `R`: the gate through the sigmoid unit, times the value. -/
def hidden (R k : ℕ) : EReal := pre x g w R k * Ideal.logistic (pre x g w R k) * pre x g w R (5632 + k)

/-- The projection back of the first `n` hidden units. -/
def part (R n : ℕ) (e : Fin 2048) : EReal := ∑ k ∈ Finset.range n, hidden x g w R k * cell v k e.val

/-- The layer's output: the projection of all hidden units, normalised, added to the row. -/
def result (j : Shape.Idx ⟨2, ![32768, 2048]⟩) : EReal :=
  x j + norm (fun e => part x g w v (j 0).val 5632 e) (fun e => cell q 0 e.val) (j 1)

theorem part_add (R n l : ℕ) (e : Fin 2048) : part x g w v R (n + l) e
    = part x g w v R n e + ∑ k : Fin l, hidden x g w R (n + k.val) * cell v (n + k.val) e.val := by
  unfold part
  rw [Finset.sum_range_add, Fin.sum_univ_eq_sum_range (fun k => hidden x g w R (n + k) * cell v (n + k) e.val) l]

theorem part_zero (R : ℕ) (e : Fin 2048) : part x g w v R 0 e = 0 := rfl

end Cert.Ffn
-- ==== Proof.FfnArray.lean ====
/- The array the feed-forward kernel leaves: each entry is the layer's output, read from the call's arguments. -/
module

public import proofs.«01_k».proof.Proof.FfnBlock
public import proofs.«01_k».proof.Proof.Ffn

@[expose] public section

set_option maxRecDepth 16384

noncomputable section

namespace Cert.Kernel3Ideal.Block

open Cert.Kernel3Ideal Cert.Kernel3Ideal.Gen Cert.Cells Cert.Ffn
open Idealize.ShloMosaic Idealize.ShloMosaic.TcCoe Idealize.ShloMosaic.Tactic Idealize.SL.Sem

variable (m : (ℓ : Loc nD τ sig) → Buf (Elt Ideal) ℓ) (c : Dev nD)

abbrev x0 : Rows := m ((c : Thread nD τ).loc main_arg0)
abbrev x1 : Gains := m ((c : Thread nD τ).loc main_arg1)
abbrev x2 : Up := m ((c : Thread nD τ).loc main_arg2)
abbrev x3 : Down := m ((c : Thread nD τ).loc main_arg3)
abbrev x4 : Gains := m ((c : Thread nD τ).loc main_arg4)

/-- The block indices of every point. -/
theorem idx : ∀ t : Fin cfg0.N, win0_0.index t = ![t.val / 11, 0] ∧ win0_1.index t = ![0, 0]
    ∧ win0_2.index t = ![0, t.val % 11] ∧ win0_3.index t = ![0, 11 + t.val % 11] ∧ win0_4.index t = ![t.val % 11, 0]
    ∧ win0_5.index t = ![0, 0] ∧ win0_6.index t = ![t.val / 11, 0] :=
  (by decide +kernel : ∀ t : Fin grid0.N, _)

theorem blk0 (t : Fin cfg0.N) (r : Fin 512) (e : Fin 2048) :
    iblk m c 0 t (ix2 r e) = cell (x0 m c) (512 * (t.val / 11) + r.val) e.val := by
  obtain ⟨h, -⟩ := idx t
  refine Eq.trans ?_ (eq_cell (x0 m c) (((cfg0.win 0).blk t).view.emb (ix2 r e)) ?_ ?_)
  · blk_simp [iblk, V]
  · blk_simp [h]
    omega
  · blk_simp [h]

theorem blk1 (t : Fin cfg0.N) (e : Fin 2048) : iblk m c 1 t (ix2 0 e) = cell (x1 m c) 0 e.val := by
  obtain ⟨-, h, -⟩ := idx t
  refine Eq.trans ?_ (eq_cell (x1 m c) (((cfg0.win 1).blk t).view.emb (ix2 0 e)) ?_ ?_)
  · blk_simp [iblk, V]
  · blk_simp [h]
    rfl
  · blk_simp [h]

theorem blk2 (t : Fin cfg0.N) (p : Fin 2048) (k : Fin 512) :
    iblk m c 2 t (ix2 p k) = cell (x2 m c) p.val (512 * (t.val % 11) + k.val) := by
  obtain ⟨-, -, h, -⟩ := idx t
  refine Eq.trans ?_ (eq_cell (x2 m c) (((cfg0.win 2).blk t).view.emb (ix2 p k)) ?_ ?_)
  · blk_simp [iblk, V]
  · blk_simp [h]
  · blk_simp [h]
    omega

theorem blk3 (t : Fin cfg0.N) (p : Fin 2048) (k : Fin 512) :
    iblk m c 3 t (ix2 p k) = cell (x2 m c) p.val (5632 + (512 * (t.val % 11) + k.val)) := by
  obtain ⟨-, -, -, h, -⟩ := idx t
  refine Eq.trans ?_ (eq_cell (x2 m c) (((cfg0.win 3).blk t).view.emb (ix2 p k)) ?_ ?_)
  · blk_simp [iblk, V]
  · blk_simp [h]
  · blk_simp [h]
    omega

theorem blk4 (t : Fin cfg0.N) (k : Fin 512) (e : Fin 2048) :
    iblk m c 4 t (ix2 k e) = cell (x3 m c) (512 * (t.val % 11) + k.val) e.val := by
  obtain ⟨-, -, -, -, h, -⟩ := idx t
  refine Eq.trans ?_ (eq_cell (x3 m c) (((cfg0.win 4).blk t).view.emb (ix2 k e)) ?_ ?_)
  · blk_simp [iblk, V]
  · blk_simp [h]
    omega
  · blk_simp [h]

theorem blk5 (t : Fin cfg0.N) (e : Fin 2048) : iblk m c 5 t (ix2 0 e) = cell (x4 m c) 0 e.val := by
  obtain ⟨-, -, -, -, -, h, -⟩ := idx t
  refine Eq.trans ?_ (eq_cell (x4 m c) (((cfg0.win 5).blk t).view.emb (ix2 0 e)) ?_ ?_)
  · blk_simp [iblk, V]
  · blk_simp [h]
    rfl
  · blk_simp [h]

/-- The normalised rows of point `t`. -/
theorem norm_eq (t : Fin cfg0.N) (r : Fin 512) (e : Fin 2048) :
    k0_pay1 (F := Ideal) (iblk m c 0 t) (iblk m c 1 t) (ix2 r e)
      = input (x0 m c) (x1 m c) (512 * (t.val / 11) + r.val) e := by
  refine (pay1 (iblk m c 0 t) (iblk m c 1 t) r e).trans ?_
  unfold input
  exact congrArg₂ (fun a b => Norm.norm a b e) (funext fun e => blk0 m c t r e) (funext fun e => blk1 m c t e)

/-- Over normalised rows and a partial projection, point `t` adds its block of hidden units. -/
theorem sum_eq (t : Fin cfg0.N) (r : Fin 512) (u : Vec Ideal S512x2048 .bf16) (s : Vec Ideal S512x2048 .f32)
    (hu : ∀ e, u (ix2 r e) = input (x0 m c) (x1 m c) (512 * (t.val / 11) + r.val) e)
    (hs : ∀ e, s (ix2 r e) = part (x0 m c) (x1 m c) (x2 m c) (x3 m c) (512 * (t.val / 11) + r.val) (512 * (t.val % 11)) e)
    (e : Fin 2048) :
    k0_pay3 (F := Ideal) u (iblk m c 2 t) (iblk m c 3 t) s (iblk m c 4 t) (ix2 r e)
      = part (x0 m c) (x1 m c) (x2 m c) (x3 m c) (512 * (t.val / 11) + r.val) (512 * (t.val % 11) + 512) e := by
  refine (pay3 u (iblk m c 2 t) (iblk m c 3 t) s (iblk m c 4 t) r e).trans ?_
  rw [part_add, hs]
  refine congrArg _ (Finset.sum_congr rfl fun k _ => ?_)
  have ha : ∑ p : Fin 2048, u (ix2 r p) * iblk m c 2 t (ix2 p k)
      = pre (x0 m c) (x1 m c) (x2 m c) (512 * (t.val / 11) + r.val) (512 * (t.val % 11) + k.val) :=
    Finset.sum_congr rfl fun p _ => congrArg₂ (· * ·) (hu p) (blk2 m c t p k)
  have hb : ∑ p : Fin 2048, u (ix2 r p) * iblk m c 3 t (ix2 p k)
      = pre (x0 m c) (x1 m c) (x2 m c) (512 * (t.val / 11) + r.val) (5632 + (512 * (t.val % 11) + k.val)) :=
    Finset.sum_congr rfl fun p _ => congrArg₂ (· * ·) (hu p) (blk3 m c t p k)
  unfold Ffn.hidden
  exact congrArg₂ (· * ·) (congrArg₂ (· * ·) (congrArg₂ (· * ·) ha (congrArg _ ha)) hb) (blk4 m c t k e)

/-- Before the last point of a row block, the carried arrays hold the normalised rows and the projection of the hidden
    units so far. -/
theorem carried : ∀ (n : ℕ) (hn : n < cfg0.N), n % 11 ≠ 10 → ∀ (r : Fin 512) (e : Fin 2048),
    (outsAt0 m c n hn).2.1 (ix2 r e) = input (x0 m c) (x1 m c) (512 * (n / 11) + r.val) e
      ∧ (outsAt0 m c n hn).2.2 (ix2 r e)
        = part (x0 m c) (x1 m c) (x2 m c) (x3 m c) (512 * (n / 11) + r.val) (512 * (n % 11) + 512) e := by
  intro n
  induction n with
  | zero =>
    intro hn h10 r e
    rw [outsAt0_A m c ⟨0, hn⟩ rfl h10]
    dsimp only
    rw [first_norm, first_sum]
    exact ⟨norm_eq m c ⟨0, hn⟩ r e, sum_eq m c ⟨0, hn⟩ r _ _ (norm_eq m c ⟨0, hn⟩ r) (fun e => pay2 r e) e⟩
  | succ n ih =>
    intro hn h10 r e
    by_cases h0 : (n + 1) % 11 = 0
    · rw [outsAt0_A m c ⟨n + 1, hn⟩ h0 h10]
      dsimp only
      rw [first_norm, first_sum]
      refine ⟨norm_eq m c ⟨n + 1, hn⟩ r e, sum_eq m c ⟨n + 1, hn⟩ r _ _ (norm_eq m c ⟨n + 1, hn⟩ r) (fun e => ?_) e⟩
      dsimp only
      rw [h0]
      exact pay2 r e
    · have hp := ih (Nat.lt_of_succ_lt hn) (by omega)
      rw [outsAt0_B m c ⟨n + 1, hn⟩ h0 h10]
      dsimp only [Nat.add_sub_cancel]
      rw [next_sum]
      have e1 : (n + 1) / 11 = n / 11 := by omega
      have e2 : (n + 1) % 11 = n % 11 + 1 := by omega
      refine ⟨?_, sum_eq m c ⟨n + 1, hn⟩ r _ _ (fun e => ?_) (fun e => ?_) e⟩
      · rw [e1]; exact (hp r e).1
      · dsimp only; rw [e1]; exact (hp r e).1
      · dsimp only; rw [e1, e2]; exact (hp r e).2

/-- What the last point of a row block stores. -/
theorem stored (t : Fin cfg0.N) (h10 : t.val % 11 = 10) (r : Fin 512) (e : Fin 2048) :
    (outsAt0 m c t.val t.isLt).1 (ix2 r e) = cell (x0 m c) (512 * (t.val / 11) + r.val) e.val
      + Norm.norm (fun e => part (x0 m c) (x1 m c) (x2 m c) (x3 m c) (512 * (t.val / 11) + r.val) 5632 e)
        (fun e => cell (x4 m c) 0 e.val) e := by
  rw [outsAt0_C m c t (by omega) h10]
  dsimp only
  rw [last_out]
  have hp := carried m c (t.val - 1) (by omega) (by omega)
  have e1 : (t.val - 1) / 11 = t.val / 11 := by omega
  have e2 : 512 * ((t.val - 1) % 11) + 512 = 512 * (t.val % 11) := by omega
  rw [e1, e2] at hp
  refine (pay4 (iblk m c 0 t) _ (iblk m c 5 t) r e).trans ?_
  refine congrArg₂ (· + ·) (blk0 m c t r e) (congrArg₂ (fun a b => Norm.norm a b e) (funext fun e => ?_)
    (funext fun e => blk5 m c t e))
  rw [sum_eq m c t r _ _ (fun e => (hp r e).1) (fun e => (hp r e).2) e, h10]

/-- The output array is the layer's output. -/
theorem final : (dats m 0 c).arrAt 6 (cfgs 0).N = result (x0 m c) (x1 m c) (x2 m c) (x3 m c) (x4 m c) := by
  refine (dats m 0 c).arrAt_eq_of_covers 6 _ (by decide +kernel) fun t hf y => ?_
  blk_simp
  rw [after0_6]
  have h10 : t.val % 11 = 10 := (flush0_6 t).mp hf
  obtain ⟨-, -, -, -, -, -, h⟩ := idx t
  have hr : (y 0).val < 512 := (y 0).isLt
  have hd : (y 1).val < 2048 := (y 1).isLt
  have e0 : ((((cfg0.win 6).blk t).view.emb y) 0).val = 512 * (t.val / 11) + (y 0).val := by
    blk_simp [h]
    omega
  have e1 : ((((cfg0.win 6).blk t).view.emb y) 1).val = (y 1).val := by
    blk_simp [h]
  have ey : y = ix2 ⟨(y 0).val, hr⟩ ⟨(y 1).val, hd⟩ := by
    funext a; match a with | ⟨0, _⟩ => rfl | ⟨1, _⟩ => rfl
  refine Eq.trans (congrArg _ ey) ((stored m c t h10 ⟨(y 0).val, hr⟩ ⟨(y 1).val, hd⟩).trans ?_)
  unfold result
  rw [eq_cell (x0 m c) _ e0 e1, e0]
  exact congrArg (fun a => _ + Norm.norm _ _ a) (Fin.ext e1.symm)

end Cert.Kernel3Ideal.Block
-- ==== Proof.FfnRef.lean ====
/- What the reference of the feed-forward layer computes, entry by entry: the layer's output. -/
module

public import proofs.«01_k».proof.Proof.Gen.Reference3Ideal.Read
public import proofs.«01_k».proof.Proof.Ffn
public import Idealize.ShloMosaic.Lib.Pointwise

@[expose] public section

set_option maxRecDepth 16384

noncomputable section

namespace Cert.Reference3Ideal.Entry

open Cert.Reference3Ideal Cert.Reference3Ideal.Gen Cert.Reference3Ideal.Read Cert.Cells Cert.Ffn
open Idealize.ShloMosaic Idealize.ShloMosaic.TcCoe Idealize.ShloMosaic.Tactic Idealize.SL.Sem

theorem zero_word : Ideal.ofBits FTy.f32 0x00000000#32 = 0 := by simp [Ideal.ofBits, Ideal.ieee]
theorem one_word : Ideal.ofBits FTy.f32 0x3F800000#32 = 1 := by
  simp [Ideal.ofBits, Ideal.ieee]
  rw [← EReal.coe_mul]
  norm_num

variable (x0 : (⟨S32768x2048, .f32⟩ : BufTy).Contents (Elt Ideal)) (x1 : (⟨S1x2048, .f32⟩ : BufTy).Contents (Elt Ideal))
  (x2 : (⟨S2048x11264, .bf16⟩ : BufTy).Contents (Elt Ideal)) (x3 : (⟨S5632x2048, .bf16⟩ : BufTy).Contents (Elt Ideal))
  (x4 : (⟨S1x2048, .f32⟩ : BufTy).Contents (Elt Ideal))

/-- The row's inverse root mean square. -/
theorem v8_eq (i : S32768x2048.Idx) :
    val_main_v8 (F := Ideal) x0 i = Norm.inv fun e => cell x0 (i 0).val e.val := by
  rw [val_main_v8_apply, val_main_v7_apply, val_main_v6_apply, val_main_v5_apply, val_main_v4_apply, val_main_v3_apply,
    val_main_v2_apply, val_main_v1_apply, val_main_cst_apply, val_main_cst_0_apply, val_main_cst_1_apply]
  unfold Norm.inv
  refine congrArg (fun a => Ideal.rsqrt (Ideal.div a _ + _)) ?_
  refine (congrArg (· + _) zero_word).trans ((zero_add _).trans (Finset.sum_congr rfl fun k _ => ?_))
  rw [val_main_v0_apply]
  exact congrArg (fun a : EReal => a * a) (eq_cell x0 _ rfl rfl)

/-- The normalised rows. -/
theorem v11_eq (i : S32768x2048.Idx) : val_main_v11 (F := Ideal) x0 x1 i = input x0 x1 (i 0).val (i 1) := by
  rw [val_main_v11_apply, val_main_v10_apply, val_main_v9_apply, v8_eq]
  unfold input Norm.norm
  exact congrArg₂ (fun a b : EReal => a * _ * b) (eq_cell x0 i rfl rfl) (eq_cell x1 _ rfl rfl)

/-- The first projection. -/
theorem v13_eq (i : S32768x11264.Idx) : val_main_v13 (F := Ideal) x0 x1 x2 i = pre x0 x1 x2 (i 0).val (i 1).val := by
  rw [val_main_v13_apply]
  refine Finset.sum_congr rfl fun k _ => ?_
  rw [v11_eq, val_main_v12_apply]
  exact congrArg (fun a : EReal => _ * a) (eq_cell x2 _ rfl rfl)

/-- The hidden units. -/
theorem v17_eq (i : S32768x5632.Idx) : val_main_v17 (F := Ideal) x0 x1 x2 i = Ffn.hidden x0 x1 x2 (i 0).val (i 1).val := by
  rw [val_main_v17_apply, val_main_v16_apply, val_main_call0_v5_apply, val_main_call0_v4_apply, val_main_call0_v3_apply,
    val_main_call0_v2_apply, val_main_call0_v1_apply, val_main_call0_v0_apply, val_main_call0_cst_apply,
    val_main_call0_cst_0_apply, val_main_v15_apply, val_main_v14_apply, v13_eq, v13_eq]
  show pre x0 x1 x2 (i 0).val (i 1).val * Ideal.div (Ideal.ofBits FTy.f32 0x3F800000#32)
    (Ideal.ofBits FTy.f32 0x3F800000#32 + Ideal.exp (-pre x0 x1 x2 (i 0).val (i 1).val))
      * pre x0 x1 x2 (i 0).val (5632 + (i 1).val) = _
  rw [one_word]
  rfl

/-- The projection back. -/
theorem v19_eq (i : S32768x2048.Idx) :
    val_main_v19 (F := Ideal) x0 x1 x2 x3 i = part x0 x1 x2 x3 (i 0).val 5632 (i 1) := by
  unfold part
  rw [val_main_v19_apply,
    ← Fin.sum_univ_eq_sum_range (fun k => Ffn.hidden x0 x1 x2 (i 0).val k * cell x3 k (i 1).val) 5632]
  refine Finset.sum_congr rfl fun k _ => ?_
  rw [v17_eq, val_main_v18_apply]
  exact congrArg (fun a : EReal => _ * a) (eq_cell x3 _ rfl rfl)

/-- Its rows' inverse root mean square. -/
theorem v28_eq (i : S32768x2048.Idx) :
    val_main_v28 (F := Ideal) x0 x1 x2 x3 i = Norm.inv fun e => part x0 x1 x2 x3 (i 0).val 5632 e := by
  rw [val_main_v28_apply, val_main_v27_apply, val_main_v26_apply, val_main_v25_apply, val_main_v24_apply,
    val_main_v23_apply, val_main_v22_apply, val_main_v21_apply, val_main_cst_2_apply, val_main_cst_3_apply,
    val_main_cst_4_apply]
  unfold Norm.inv
  refine congrArg (fun a => Ideal.rsqrt (Ideal.div a _ + _)) ?_
  refine (congrArg (· + _) zero_word).trans ((zero_add _).trans (Finset.sum_congr rfl fun k _ => ?_))
  rw [val_main_v20_apply, v19_eq]
  rfl

/-- The reference's result is the layer's output. -/
theorem result_eq : val_main_v32 (F := Ideal) x0 x1 x2 x3 x4 = result x0 x1 x2 x3 x4 := by
  funext i
  rw [val_main_v32_apply, val_main_v31_apply, val_main_v30_apply, val_main_v29_apply, v28_eq, v19_eq]
  unfold result Norm.norm
  exact congrArg (fun a : EReal => _ + _ * a) (eq_cell x4 _ rfl rfl)

end Cert.Reference3Ideal.Entry
-- ==== Proof.FfnClaim.lean ====
/- The equation of the feed-forward layer: the kernel's array is the reference's result. -/
module

public import proofs.«01_k».proof.Defs
public import proofs.«01_k».proof.Proof.FfnArray
public import proofs.«01_k».proof.Proof.FfnRef

@[expose] public section

set_option maxRecDepth 16384

noncomputable section

namespace Cert.Ffn

open Cert.Kernel3Ideal.Block
open Idealize.ShloMosaic Idealize.ShloMosaic.TcCoe Idealize.SL.Sem

/-- The claim: the feed-forward kernel computes its reference. -/
theorem algebraic : @Cert.algebraic_Kernel3Ideal_Reference3Ideal Cert.Kernel3Ideal.Gen.facts
    Cert.Reference3Ideal.Gen.facts := by
  intro m g m' g' _ hagree
  refine ⟨fun c => result (x0 m c) (x1 m c) (x2 m c) (x3 m c) (x4 m c), ?_, ?_⟩
  · refine (θ_run Cert.Kernel3Ideal.defs _ _).mono (fun _ h c => ⟨(h c).1.trans ?_, (h c).2⟩)
      (Cert.Kernel3Ideal.Value.run_blocks m g)
    exact final m c
  · refine (θ_run Cert.Reference3Ideal.defs _ _).mono (fun _ h c => ⟨(h c).1.trans ?_, (h c).2⟩)
      (Cert.Reference3Ideal.Value.run (F := Ideal) m' g')
    obtain ⟨h0, h1, h2, h3, h4⟩ := hagree c
    rw [Cert.Reference3Ideal.Read.val_main_v32_eq, h0, h1, h2, h3, h4]
    exact Cert.Reference3Ideal.Entry.result_eq _ _ _ _ _

end Cert.Ffn
-- ==== Proof.Project.lean ====
/- A projection of normalised rows, entry by entry: the row normalised, taken against a column of the weights, times the
   column's scale. -/
module

public import proofs.«01_k».proof.Proof.Norm
public import proofs.«01_k».proof.Proof.Cells

@[expose] public section

noncomputable section

namespace Cert.Project

open Idealize.ShloMosaic Cert.Norm Cert.Cells

variable {W : ℕ} [NeZero W] (x : Shape.Idx ⟨2, ![32768, 2048]⟩ → EReal) (g : Shape.Idx ⟨2, ![1, 2048]⟩ → EReal)
  (w : Shape.Idx ⟨2, ![2048, W]⟩ → EReal) (s : Shape.Idx ⟨2, ![1, W]⟩ → EReal)

/-- Entry `e` of the normalised row `R`. -/
def input (R : ℕ) (e : Fin 2048) : EReal := norm (fun e => cell x R e.val) (fun e => cell g 0 e.val) e

/-- The projection of row `R` on column `n`, scaled. -/
def entry (R n : ℕ) : EReal := (∑ p : Fin 2048, input x g R p * cell w p.val n) * cell s 0 n

/-- The projection of every row on every column. -/
def result (j : Shape.Idx ⟨2, ![32768, W]⟩) : EReal := entry x g w s (j 0).val (j 1).val

end Cert.Project
-- ==== Proof.QkvArray.lean ====
/- The array the query, key and value projection's kernel leaves: each entry is the projection of its row on its column, read from the call's
   arguments. -/
module

public import proofs.«01_k».proof.Proof.Gen.Kernel4Ideal.Value
public import proofs.«01_k».proof.Proof.Project
public import Idealize.ShloMosaic.Lib.Pipeline.ValueKit
public import Idealize.ShloMosaic.Lib.Pointwise

@[expose] public section

set_option maxRecDepth 16384

noncomputable section

namespace Cert.Kernel4Ideal.Block

open Cert.Kernel4Ideal Cert.Kernel4Ideal.Gen Cert.Cells Cert.Project
open Idealize.ShloMosaic Idealize.ShloMosaic.TcCoe Idealize.ShloMosaic.Tactic Idealize.SL.Sem

theorem zero_offset : (![0, 0] : Fin 2 → ℕ) = fun _ => 0 := by funext a; fin_cases a <;> rfl

/-- Reading all of a block gives the block. -/
theorem ld_rows (φ : EltTy) (x : Vec Ideal S1024x2048 φ) :
    View.ld x (Rect.unit ![0, 0] ![1024, 2048] inb_S1024x2048_S1024x2048_0_0) = x :=
  View.ld_unit_zero (S := S1024x2048) zero_offset _ x
theorem ld_gains (φ : EltTy) (x : Vec Ideal S1x2048 φ) :
    View.ld x (Rect.unit ![0, 0] ![1, 2048] inb_S1x2048_S1x2048_0_0) = x :=
  View.ld_unit_zero (S := S1x2048) zero_offset _ x
theorem ld_columns (φ : EltTy) (x : Vec Ideal S2048x1024 φ) :
    View.ld x (Rect.unit ![0, 0] ![2048, 1024] inb_S2048x1024_S2048x1024_0_0) = x :=
  View.ld_unit_zero (S := S2048x1024) zero_offset _ x
theorem ld_scales (φ : EltTy) (x : Vec Ideal S1x1024 φ) :
    View.ld x (Rect.unit ![0, 0] ![1, 1024] inb_S1x1024_S1x1024_0_0) = x :=
  View.ld_unit_zero (S := S1x1024) zero_offset _ x

section
variable (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x2048 .bf16) (harg7 : arg7.IsWhole)
    (x0 : Vec Ideal S1024x2048 .f32) (x1 : Vec Ideal S1x2048 .f32) (x2 : Vec Ideal S2048x1024 .bf16)
    (x3 : Vec Ideal S1x1024 .f32) (xs0 : Vec Ideal S1024x2048 .bf16)

/-- The first point of a row block normalises its rows. -/
theorem first_norm (hc0) : sout0_A_0 c i arg2 harg2 arg3 harg3 arg4 harg4 arg5 harg5 arg6 harg6 arg7 harg7 hc0 x0 x1 x2 x3
    = k0_pay1 x0 x1 := by
  unfold sout0_A_0
  refine (View.read_writes_eq_canon _ _ _ (scover0_A_0 c i arg2 harg2 arg3 harg3 arg4 harg4 arg5 harg5 arg6 harg6 arg7
    harg7 hc0 x0 x1 x2 x3)).trans ?_
  unfold kernelRun0_A
  dsimp only
  sl_unfold_words
  simp only [View.readAt_eq_ld, harg2.read_unread, harg3.read_unread]
  refine (View.canon_unit_zero (S := S1024x2048) zero_offset _ _).trans ?_
  rw [ld_rows, ld_gains]

/-- It stores their projection on its block of columns. -/
theorem first_out (hc0) : out0_A_4 c i arg2 harg2 arg3 harg3 arg4 harg4 arg5 harg5 arg6 harg6 arg7 harg7 hc0 x0 x1 x2 x3
    = k0_pay2 (F := Ideal) (k0_pay1 x0 x1) x2 x3 := by
  unfold out0_A_4
  refine (View.read_writes_eq_canon _ _ _ (cover0_A_4 c i arg2 harg2 arg3 harg3 arg4 harg4 arg5 harg5 arg6 harg6 arg7
    harg7 hc0 x0 x1 x2 x3)).trans ?_
  unfold kernelRun0_A
  dsimp only
  sl_unfold_words
  simp only [View.readAt_eq_ld, harg2.read_unread, harg3.read_unread, harg4.read_unread, harg5.read_unread]
  refine (View.canon_unit_zero (S := S1024x1024) zero_offset _ _).trans ?_
  rw [View.readCov_cons_toLoadRect, ld_rows, ld_gains, ld_columns, ld_scales]

/-- A later point stores the projection of the rows normalised before. -/
theorem next_out (hc0) : out0_B_4 c i arg2 harg2 arg3 harg3 arg4 harg4 arg5 harg5 arg6 harg6 arg7 harg7 hc0 x0 x1 x2 x3 xs0
    = k0_pay2 xs0 x2 x3 := by
  unfold out0_B_4
  refine (View.read_writes_eq_canon _ _ _ (cover0_B_4 c i arg2 harg2 arg3 harg3 arg4 harg4 arg5 harg5 arg6 harg6 arg7
    harg7 hc0 x0 x1 x2 x3 xs0)).trans ?_
  unfold kernelRun0_B
  dsimp only
  sl_unfold_words
  simp only [View.readAt_eq_ld, harg4.read_unread, harg5.read_unread, harg7.read_unread]
  refine (View.canon_unit_zero (S := S1024x1024) zero_offset _ _).trans ?_
  rw [ld_rows, ld_columns, ld_scales]
end

set_option backward.isDefEq.respectTransparency false in
theorem pay1 (x : Vec Ideal S1024x2048 .f32) (g : Vec Ideal S1x2048 .f32) (r : Fin 1024) (e : Fin 2048) :
    k0_pay1 x g (ix2 r e) = Norm.norm (fun e => x (ix2 r e)) (fun e => g (ix2 0 e)) e := by
  pointwise [k0_pay1]
  rfl

set_option backward.isDefEq.respectTransparency false in
theorem pay2 (u : Vec Ideal S1024x2048 .bf16) (w : Vec Ideal S2048x1024 .bf16) (s : Vec Ideal S1x1024 .f32)
    (r n : Fin 1024) :
    k0_pay2 u w s (ix2 r n) = (∑ p : Fin 2048, u (ix2 r p) * w (ix2 p n)) * s (ix2 0 n) := by
  pointwise [k0_pay2]

variable (m : (ℓ : Loc nD τ sig) → Buf (Elt Ideal) ℓ) (c : Dev nD)

abbrev x0 : S32768x2048.Idx → EReal := m ((c : Thread nD τ).loc main_arg0)
abbrev x1 : S1x2048.Idx → EReal := m ((c : Thread nD τ).loc main_arg1)
abbrev x2 : S2048x3072.Idx → EReal := m ((c : Thread nD τ).loc main_arg2)
abbrev x3 : S1x3072.Idx → EReal := m ((c : Thread nD τ).loc main_arg3)

/-- The block indices of every point. -/
theorem idx : ∀ t : Fin cfg0.N, win0_0.index t = ![t.val / 3, 0] ∧ win0_1.index t = ![0, 0]
    ∧ win0_2.index t = ![0, t.val % 3] ∧ win0_3.index t = ![0, t.val % 3] ∧ win0_4.index t = ![t.val / 3, t.val % 3] :=
  (by decide +kernel : ∀ t : Fin grid0.N, _)

theorem blk0 (t : Fin cfg0.N) (r : Fin 1024) (e : Fin 2048) :
    iblk m c 0 t (ix2 r e) = cell (x0 m c) (1024 * (t.val / 3) + r.val) e.val := by
  obtain ⟨h, -⟩ := idx t
  refine Eq.trans ?_ (eq_cell (x0 m c) (((cfg0.win 0).blk t).view.emb (ix2 r e)) ?_ ?_)
  · blk_simp [iblk, V]
  · blk_simp [h]
    omega
  · blk_simp [h]

theorem blk1 (t : Fin cfg0.N) (e : Fin 2048) : iblk m c 1 t (ix2 0 e) = cell (x1 m c) 0 e.val := by
  obtain ⟨-, h, -⟩ := idx t
  refine Eq.trans ?_ (eq_cell (x1 m c) (((cfg0.win 1).blk t).view.emb (ix2 0 e)) ?_ ?_)
  · blk_simp [iblk, V]
  · blk_simp [h]
    rfl
  · blk_simp [h]

theorem blk2 (t : Fin cfg0.N) (p : Fin 2048) (n : Fin 1024) :
    iblk m c 2 t (ix2 p n) = cell (x2 m c) p.val (1024 * (t.val % 3) + n.val) := by
  obtain ⟨-, -, h, -⟩ := idx t
  refine Eq.trans ?_ (eq_cell (x2 m c) (((cfg0.win 2).blk t).view.emb (ix2 p n)) ?_ ?_)
  · blk_simp [iblk, V]
  · blk_simp [h]
  · blk_simp [h]
    omega

theorem blk3 (t : Fin cfg0.N) (n : Fin 1024) :
    iblk m c 3 t (ix2 0 n) = cell (x3 m c) 0 (1024 * (t.val % 3) + n.val) := by
  obtain ⟨-, -, -, h, -⟩ := idx t
  refine Eq.trans ?_ (eq_cell (x3 m c) (((cfg0.win 3).blk t).view.emb (ix2 0 n)) ?_ ?_)
  · blk_simp [iblk, V]
  · blk_simp [h]
    rfl
  · blk_simp [h]
    omega

/-- The normalised rows of point `t`. -/
theorem norm_eq (t : Fin cfg0.N) (r : Fin 1024) (e : Fin 2048) :
    k0_pay1 (F := Ideal) (iblk m c 0 t) (iblk m c 1 t) (ix2 r e)
      = input (x0 m c) (x1 m c) (1024 * (t.val / 3) + r.val) e := by
  refine (pay1 (iblk m c 0 t) (iblk m c 1 t) r e).trans ?_
  unfold input
  exact congrArg₂ (fun a b => Norm.norm a b e) (funext fun e => blk0 m c t r e) (funext fun e => blk1 m c t e)

/-- Every point carries the normalised rows of its row block. -/
theorem carried : ∀ (n : ℕ) (hn : n < cfg0.N) (r : Fin 1024) (e : Fin 2048),
    (outsAt0 m c n hn).2 (ix2 r e) = input (x0 m c) (x1 m c) (1024 * (n / 3) + r.val) e := by
  intro n
  induction n with
  | zero =>
    intro hn r e
    rw [outsAt0_A m c ⟨0, hn⟩ rfl]
    dsimp only
    rw [first_norm]
    exact norm_eq m c ⟨0, hn⟩ r e
  | succ n ih =>
    intro hn r e
    by_cases h0 : (n + 1) % 3 = 0
    · rw [outsAt0_A m c ⟨n + 1, hn⟩ h0]
      dsimp only
      rw [first_norm]
      exact norm_eq m c ⟨n + 1, hn⟩ r e
    · rw [outsAt0_B m c ⟨n + 1, hn⟩ h0]
      rw [show (n + 1) / 3 = n / 3 by omega]
      exact ih (Nat.lt_of_succ_lt hn) r e

/-- Over the normalised rows, point `t` projects them on its block of columns. -/
theorem project_eq (t : Fin cfg0.N) (r n : Fin 1024) (u : Vec Ideal S1024x2048 .bf16)
    (hu : ∀ e, u (ix2 r e) = input (x0 m c) (x1 m c) (1024 * (t.val / 3) + r.val) e) :
    k0_pay2 (F := Ideal) u (iblk m c 2 t) (iblk m c 3 t) (ix2 r n)
      = entry (x0 m c) (x1 m c) (x2 m c) (x3 m c) (1024 * (t.val / 3) + r.val) (1024 * (t.val % 3) + n.val) := by
  refine (pay2 u (iblk m c 2 t) (iblk m c 3 t) r n).trans ?_
  exact congrArg₂ (· * ·) (Finset.sum_congr rfl fun p _ => congrArg₂ (· * ·) (hu p) (blk2 m c t p n)) (blk3 m c t n)

/-- What point `t` stores. -/
theorem stored (t : Fin cfg0.N) (r n : Fin 1024) : (outsAt0 m c t.val t.isLt).1 (ix2 r n)
    = entry (x0 m c) (x1 m c) (x2 m c) (x3 m c) (1024 * (t.val / 3) + r.val) (1024 * (t.val % 3) + n.val) := by
  by_cases h0 : t.val % 3 = 0
  · rw [outsAt0_A m c t h0]
    dsimp only
    rw [first_out]
    exact project_eq m c t r n _ (norm_eq m c t r)
  · rw [outsAt0_B m c t h0]
    dsimp only
    rw [next_out]
    refine project_eq m c t r n _ fun e => ?_
    rw [carried, show (t.val - 1) / 3 = t.val / 3 by omega]

/-- The output array is the projection of the normalised rows. -/
theorem final : (dats m 0 c).arrAt 4 (cfgs 0).N = result (x0 m c) (x1 m c) (x2 m c) (x3 m c) := by
  refine (dats m 0 c).arrAt_eq_of_covers 4 _ (by decide +kernel) fun t _ y => ?_
  blk_simp
  rw [after0_4]
  obtain ⟨-, -, -, -, h⟩ := idx t
  have hr : (y 0).val < 1024 := (y 0).isLt
  have hd : (y 1).val < 1024 := (y 1).isLt
  have e0 : ((((cfg0.win 4).blk t).view.emb y) 0).val = 1024 * (t.val / 3) + (y 0).val := by
    blk_simp [h]
    omega
  have e1 : ((((cfg0.win 4).blk t).view.emb y) 1).val = 1024 * (t.val % 3) + (y 1).val := by
    blk_simp [h]
    omega
  have ey : y = ix2 ⟨(y 0).val, hr⟩ ⟨(y 1).val, hd⟩ := by
    funext a; match a with | ⟨0, _⟩ => rfl | ⟨1, _⟩ => rfl
  refine Eq.trans (congrArg _ ey) ((stored m c t ⟨(y 0).val, hr⟩ ⟨(y 1).val, hd⟩).trans ?_)
  unfold result
  rw [e0, e1]

end Cert.Kernel4Ideal.Block
-- ==== Proof.QkvClaim.lean ====
/- What the reference of the query, key and value projection computes, entry by entry, and the claim: the kernel's array is the reference's
   result. -/
module

public import proofs.«01_k».proof.Defs
public import proofs.«01_k».proof.Proof.QkvArray
public import proofs.«01_k».proof.Proof.Gen.Reference4Ideal.Read

@[expose] public section

set_option maxRecDepth 16384

noncomputable section

namespace Cert.Reference4Ideal.Entry

open Cert.Reference4Ideal Cert.Reference4Ideal.Gen Cert.Reference4Ideal.Read Cert.Cells Cert.Project
open Idealize.ShloMosaic Idealize.ShloMosaic.TcCoe Idealize.ShloMosaic.Tactic Idealize.SL.Sem

theorem zero_word : Ideal.ofBits FTy.f32 0x00000000#32 = 0 := by simp [Ideal.ofBits, Ideal.ieee]

variable (x0 : (⟨S32768x2048, .f32⟩ : BufTy).Contents (Elt Ideal)) (x1 : (⟨S1x2048, .f32⟩ : BufTy).Contents (Elt Ideal))
  (x2 : (⟨S2048x3072, .bf16⟩ : BufTy).Contents (Elt Ideal)) (x3 : (⟨S1x3072, .f32⟩ : BufTy).Contents (Elt Ideal))

/-- The row's inverse root mean square. -/
theorem v8_eq (i : S32768x2048.Idx) :
    val_main_v8 (F := Ideal) x0 i = Norm.inv fun e => cell x0 (i 0).val e.val := by
  rw [val_main_v8_apply, val_main_v7_apply, val_main_v6_apply, val_main_v5_apply, val_main_v4_apply, val_main_v3_apply,
    val_main_v2_apply, val_main_v1_apply, val_main_cst_apply, val_main_cst_0_apply, val_main_cst_1_apply]
  unfold Norm.inv
  refine congrArg (fun a => Ideal.rsqrt (Ideal.div a _ + _)) ?_
  refine (congrArg (· + _) zero_word).trans ((zero_add _).trans (Finset.sum_congr rfl fun k _ => ?_))
  rw [val_main_v0_apply]
  exact congrArg (fun a : EReal => a * a) (eq_cell x0 _ rfl rfl)

/-- The normalised rows. -/
theorem v11_eq (i : S32768x2048.Idx) : val_main_v11 (F := Ideal) x0 x1 i = input x0 x1 (i 0).val (i 1) := by
  rw [val_main_v11_apply, val_main_v10_apply, val_main_v9_apply, v8_eq]
  unfold input Norm.norm
  exact congrArg₂ (fun a b : EReal => a * _ * b) (eq_cell x0 i rfl rfl) (eq_cell x1 _ rfl rfl)

/-- The reference's result is the projection of the normalised rows. -/
theorem result_eq : val_main_v16 (F := Ideal) x0 x1 x2 x3 = result x0 x1 x2 x3 := by
  funext i
  rw [val_main_v16_apply, val_main_v15_apply, val_main_v14_apply, val_main_v13_apply]
  unfold result entry
  refine congrArg₂ (fun a b : EReal => a * b) (Finset.sum_congr rfl fun k _ => ?_) (eq_cell x3 _ rfl rfl)
  rw [v11_eq, val_main_v12_apply]
  exact congrArg (fun a : EReal => _ * a) (eq_cell x2 _ rfl rfl)

end Cert.Reference4Ideal.Entry

namespace Cert.Qkv

open Cert.Kernel4Ideal.Block Cert.Project
open Idealize.ShloMosaic Idealize.ShloMosaic.TcCoe Idealize.SL.Sem

/-- The claim: the kernel of the query, key and value projection computes its reference. -/
theorem algebraic : @Cert.algebraic_Kernel4Ideal_Reference4Ideal Cert.Kernel4Ideal.Gen.facts
    Cert.Reference4Ideal.Gen.facts := by
  intro m g m' g' _ hagree
  refine ⟨fun c => result (x0 m c) (x1 m c) (x2 m c) (x3 m c), ?_, ?_⟩
  · refine (θ_run Cert.Kernel4Ideal.defs _ _).mono (fun _ h c => ⟨(h c).1.trans ?_, (h c).2⟩)
      (Cert.Kernel4Ideal.Value.run_blocks m g)
    exact final m c
  · refine (θ_run Cert.Reference4Ideal.defs _ _).mono (fun _ h c => ⟨(h c).1.trans ?_, (h c).2⟩)
      (Cert.Reference4Ideal.Value.run (F := Ideal) m' g')
    obtain ⟨h0, h1, h2, h3⟩ := hagree c
    refine (Cert.Reference4Ideal.Read.val_main_v16_eq _ _ _ _).trans ?_
    rw [h0, h1, h2, h3]
    exact Cert.Reference4Ideal.Entry.result_eq _ _ _ _

end Cert.Qkv
-- ==== Proof.GateArray.lean ====
/- The array the gate projection's kernel leaves: each entry is the projection of its row on its column, read from the call's
   arguments. -/
module

public import proofs.«01_k».proof.Proof.Gen.Kernel5Ideal.Value
public import proofs.«01_k».proof.Proof.Project
public import Idealize.ShloMosaic.Lib.Pipeline.ValueKit
public import Idealize.ShloMosaic.Lib.Pointwise

@[expose] public section

set_option maxRecDepth 16384

noncomputable section

namespace Cert.Kernel5Ideal.Block

open Cert.Kernel5Ideal Cert.Kernel5Ideal.Gen Cert.Cells Cert.Project
open Idealize.ShloMosaic Idealize.ShloMosaic.TcCoe Idealize.ShloMosaic.Tactic Idealize.SL.Sem

theorem zero_offset : (![0, 0] : Fin 2 → ℕ) = fun _ => 0 := by funext a; fin_cases a <;> rfl

/-- Reading all of a block gives the block. -/
theorem ld_rows (φ : EltTy) (x : Vec Ideal S1024x2048 φ) :
    View.ld x (Rect.unit ![0, 0] ![1024, 2048] inb_S1024x2048_S1024x2048_0_0) = x :=
  View.ld_unit_zero (S := S1024x2048) zero_offset _ x
theorem ld_gains (φ : EltTy) (x : Vec Ideal S1x2048 φ) :
    View.ld x (Rect.unit ![0, 0] ![1, 2048] inb_S1x2048_S1x2048_0_0) = x :=
  View.ld_unit_zero (S := S1x2048) zero_offset _ x
theorem ld_columns (φ : EltTy) (x : Vec Ideal S2048x1024 φ) :
    View.ld x (Rect.unit ![0, 0] ![2048, 1024] inb_S2048x1024_S2048x1024_0_0) = x :=
  View.ld_unit_zero (S := S2048x1024) zero_offset _ x
theorem ld_scales (φ : EltTy) (x : Vec Ideal S1x1024 φ) :
    View.ld x (Rect.unit ![0, 0] ![1, 1024] inb_S1x1024_S1x1024_0_0) = x :=
  View.ld_unit_zero (S := S1x1024) zero_offset _ x

section
variable (c : Dev nD) (i : grid0.Coords) (arg2 : Memref sig .tc .vmem S1024x2048 .f32) (harg2 : arg2.IsWhole)
    (arg3 : Memref sig .tc .vmem S1x2048 .f32) (harg3 : arg3.IsWhole)
    (arg4 : Memref sig .tc .vmem S2048x1024 .bf16) (harg4 : arg4.IsWhole)
    (arg5 : Memref sig .tc .vmem S1x1024 .f32) (harg5 : arg5.IsWhole)
    (arg6 : Memref sig .tc .vmem S1024x1024 .bf16) (harg6 : arg6.IsWhole)
    (arg7 : Memref sig .tc .vmem S1024x2048 .bf16) (harg7 : arg7.IsWhole)
    (x0 : Vec Ideal S1024x2048 .f32) (x1 : Vec Ideal S1x2048 .f32) (x2 : Vec Ideal S2048x1024 .bf16)
    (x3 : Vec Ideal S1x1024 .f32) (xs0 : Vec Ideal S1024x2048 .bf16)

/-- The first point of a row block normalises its rows. -/
theorem first_norm (hc0) : sout0_A_0 c i arg2 harg2 arg3 harg3 arg4 harg4 arg5 harg5 arg6 harg6 arg7 harg7 hc0 x0 x1 x2 x3
    = k0_pay1 x0 x1 := by
  unfold sout0_A_0
  refine (View.read_writes_eq_canon _ _ _ (scover0_A_0 c i arg2 harg2 arg3 harg3 arg4 harg4 arg5 harg5 arg6 harg6 arg7
    harg7 hc0 x0 x1 x2 x3)).trans ?_
  unfold kernelRun0_A
  dsimp only
  sl_unfold_words
  simp only [View.readAt_eq_ld, harg2.read_unread, harg3.read_unread]
  refine (View.canon_unit_zero (S := S1024x2048) zero_offset _ _).trans ?_
  rw [ld_rows, ld_gains]

/-- It stores their projection on its block of columns. -/
theorem first_out (hc0) : out0_A_4 c i arg2 harg2 arg3 harg3 arg4 harg4 arg5 harg5 arg6 harg6 arg7 harg7 hc0 x0 x1 x2 x3
    = k0_pay2 (F := Ideal) (k0_pay1 x0 x1) x2 x3 := by
  unfold out0_A_4
  refine (View.read_writes_eq_canon _ _ _ (cover0_A_4 c i arg2 harg2 arg3 harg3 arg4 harg4 arg5 harg5 arg6 harg6 arg7
    harg7 hc0 x0 x1 x2 x3)).trans ?_
  unfold kernelRun0_A
  dsimp only
  sl_unfold_words
  simp only [View.readAt_eq_ld, harg2.read_unread, harg3.read_unread, harg4.read_unread, harg5.read_unread]
  refine (View.canon_unit_zero (S := S1024x1024) zero_offset _ _).trans ?_
  rw [View.readCov_cons_toLoadRect, ld_rows, ld_gains, ld_columns, ld_scales]

/-- A later point stores the projection of the rows normalised before. -/
theorem next_out (hc0) : out0_B_4 c i arg2 harg2 arg3 harg3 arg4 harg4 arg5 harg5 arg6 harg6 arg7 harg7 hc0 x0 x1 x2 x3 xs0
    = k0_pay2 xs0 x2 x3 := by
  unfold out0_B_4
  refine (View.read_writes_eq_canon _ _ _ (cover0_B_4 c i arg2 harg2 arg3 harg3 arg4 harg4 arg5 harg5 arg6 harg6 arg7
    harg7 hc0 x0 x1 x2 x3 xs0)).trans ?_
  unfold kernelRun0_B
  dsimp only
  sl_unfold_words
  simp only [View.readAt_eq_ld, harg4.read_unread, harg5.read_unread, harg7.read_unread]
  refine (View.canon_unit_zero (S := S1024x1024) zero_offset _ _).trans ?_
  rw [ld_rows, ld_columns, ld_scales]
end

set_option backward.isDefEq.respectTransparency false in
theorem pay1 (x : Vec Ideal S1024x2048 .f32) (g : Vec Ideal S1x2048 .f32) (r : Fin 1024) (e : Fin 2048) :
    k0_pay1 x g (ix2 r e) = Norm.norm (fun e => x (ix2 r e)) (fun e => g (ix2 0 e)) e := by
  pointwise [k0_pay1]
  rfl

set_option backward.isDefEq.respectTransparency false in
theorem pay2 (u : Vec Ideal S1024x2048 .bf16) (w : Vec Ideal S2048x1024 .bf16) (s : Vec Ideal S1x1024 .f32)
    (r n : Fin 1024) :
    k0_pay2 u w s (ix2 r n) = (∑ p : Fin 2048, u (ix2 r p) * w (ix2 p n)) * s (ix2 0 n) := by
  pointwise [k0_pay2]

variable (m : (ℓ : Loc nD τ sig) → Buf (Elt Ideal) ℓ) (c : Dev nD)

abbrev x0 : S32768x2048.Idx → EReal := m ((c : Thread nD τ).loc main_arg0)
abbrev x1 : S1x2048.Idx → EReal := m ((c : Thread nD τ).loc main_arg1)
abbrev x2 : S2048x4096.Idx → EReal := m ((c : Thread nD τ).loc main_arg2)
abbrev x3 : S1x4096.Idx → EReal := m ((c : Thread nD τ).loc main_arg3)

/-- The block indices of every point. -/
theorem idx : ∀ t : Fin cfg0.N, win0_0.index t = ![t.val / 4, 0] ∧ win0_1.index t = ![0, 0]
    ∧ win0_2.index t = ![0, t.val % 4] ∧ win0_3.index t = ![0, t.val % 4] ∧ win0_4.index t = ![t.val / 4, t.val % 4] :=
  (by decide +kernel : ∀ t : Fin grid0.N, _)

theorem blk0 (t : Fin cfg0.N) (r : Fin 1024) (e : Fin 2048) :
    iblk m c 0 t (ix2 r e) = cell (x0 m c) (1024 * (t.val / 4) + r.val) e.val := by
  obtain ⟨h, -⟩ := idx t
  refine Eq.trans ?_ (eq_cell (x0 m c) (((cfg0.win 0).blk t).view.emb (ix2 r e)) ?_ ?_)
  · blk_simp [iblk, V]
  · blk_simp [h]
    omega
  · blk_simp [h]

theorem blk1 (t : Fin cfg0.N) (e : Fin 2048) : iblk m c 1 t (ix2 0 e) = cell (x1 m c) 0 e.val := by
  obtain ⟨-, h, -⟩ := idx t
  refine Eq.trans ?_ (eq_cell (x1 m c) (((cfg0.win 1).blk t).view.emb (ix2 0 e)) ?_ ?_)
  · blk_simp [iblk, V]
  · blk_simp [h]
    rfl
  · blk_simp [h]

theorem blk2 (t : Fin cfg0.N) (p : Fin 2048) (n : Fin 1024) :
    iblk m c 2 t (ix2 p n) = cell (x2 m c) p.val (1024 * (t.val % 4) + n.val) := by
  obtain ⟨-, -, h, -⟩ := idx t
  refine Eq.trans ?_ (eq_cell (x2 m c) (((cfg0.win 2).blk t).view.emb (ix2 p n)) ?_ ?_)
  · blk_simp [iblk, V]
  · blk_simp [h]
  · blk_simp [h]
    omega

theorem blk3 (t : Fin cfg0.N) (n : Fin 1024) :
    iblk m c 3 t (ix2 0 n) = cell (x3 m c) 0 (1024 * (t.val % 4) + n.val) := by
  obtain ⟨-, -, -, h, -⟩ := idx t
  refine Eq.trans ?_ (eq_cell (x3 m c) (((cfg0.win 3).blk t).view.emb (ix2 0 n)) ?_ ?_)
  · blk_simp [iblk, V]
  · blk_simp [h]
    rfl
  · blk_simp [h]
    omega

/-- The normalised rows of point `t`. -/
theorem norm_eq (t : Fin cfg0.N) (r : Fin 1024) (e : Fin 2048) :
    k0_pay1 (F := Ideal) (iblk m c 0 t) (iblk m c 1 t) (ix2 r e)
      = input (x0 m c) (x1 m c) (1024 * (t.val / 4) + r.val) e := by
  refine (pay1 (iblk m c 0 t) (iblk m c 1 t) r e).trans ?_
  unfold input
  exact congrArg₂ (fun a b => Norm.norm a b e) (funext fun e => blk0 m c t r e) (funext fun e => blk1 m c t e)

/-- Every point carries the normalised rows of its row block. -/
theorem carried : ∀ (n : ℕ) (hn : n < cfg0.N) (r : Fin 1024) (e : Fin 2048),
    (outsAt0 m c n hn).2 (ix2 r e) = input (x0 m c) (x1 m c) (1024 * (n / 4) + r.val) e := by
  intro n
  induction n with
  | zero =>
    intro hn r e
    rw [outsAt0_A m c ⟨0, hn⟩ rfl]
    dsimp only
    rw [first_norm]
    exact norm_eq m c ⟨0, hn⟩ r e
  | succ n ih =>
    intro hn r e
    by_cases h0 : (n + 1) % 4 = 0
    · rw [outsAt0_A m c ⟨n + 1, hn⟩ h0]
      dsimp only
      rw [first_norm]
      exact norm_eq m c ⟨n + 1, hn⟩ r e
    · rw [outsAt0_B m c ⟨n + 1, hn⟩ h0]
      rw [show (n + 1) / 4 = n / 4 by omega]
      exact ih (Nat.lt_of_succ_lt hn) r e

/-- Over the normalised rows, point `t` projects them on its block of columns. -/
theorem project_eq (t : Fin cfg0.N) (r n : Fin 1024) (u : Vec Ideal S1024x2048 .bf16)
    (hu : ∀ e, u (ix2 r e) = input (x0 m c) (x1 m c) (1024 * (t.val / 4) + r.val) e) :
    k0_pay2 (F := Ideal) u (iblk m c 2 t) (iblk m c 3 t) (ix2 r n)
      = entry (x0 m c) (x1 m c) (x2 m c) (x3 m c) (1024 * (t.val / 4) + r.val) (1024 * (t.val % 4) + n.val) := by
  refine (pay2 u (iblk m c 2 t) (iblk m c 3 t) r n).trans ?_
  exact congrArg₂ (· * ·) (Finset.sum_congr rfl fun p _ => congrArg₂ (· * ·) (hu p) (blk2 m c t p n)) (blk3 m c t n)

/-- What point `t` stores. -/
theorem stored (t : Fin cfg0.N) (r n : Fin 1024) : (outsAt0 m c t.val t.isLt).1 (ix2 r n)
    = entry (x0 m c) (x1 m c) (x2 m c) (x3 m c) (1024 * (t.val / 4) + r.val) (1024 * (t.val % 4) + n.val) := by
  by_cases h0 : t.val % 4 = 0
  · rw [outsAt0_A m c t h0]
    dsimp only
    rw [first_out]
    exact project_eq m c t r n _ (norm_eq m c t r)
  · rw [outsAt0_B m c t h0]
    dsimp only
    rw [next_out]
    refine project_eq m c t r n _ fun e => ?_
    rw [carried, show (t.val - 1) / 4 = t.val / 4 by omega]

/-- The output array is the projection of the normalised rows. -/
theorem final : (dats m 0 c).arrAt 4 (cfgs 0).N = result (x0 m c) (x1 m c) (x2 m c) (x3 m c) := by
  refine (dats m 0 c).arrAt_eq_of_covers 4 _ (by decide +kernel) fun t _ y => ?_
  blk_simp
  rw [after0_4]
  obtain ⟨-, -, -, -, h⟩ := idx t
  have hr : (y 0).val < 1024 := (y 0).isLt
  have hd : (y 1).val < 1024 := (y 1).isLt
  have e0 : ((((cfg0.win 4).blk t).view.emb y) 0).val = 1024 * (t.val / 4) + (y 0).val := by
    blk_simp [h]
    omega
  have e1 : ((((cfg0.win 4).blk t).view.emb y) 1).val = 1024 * (t.val % 4) + (y 1).val := by
    blk_simp [h]
    omega
  have ey : y = ix2 ⟨(y 0).val, hr⟩ ⟨(y 1).val, hd⟩ := by
    funext a; match a with | ⟨0, _⟩ => rfl | ⟨1, _⟩ => rfl
  refine Eq.trans (congrArg _ ey) ((stored m c t ⟨(y 0).val, hr⟩ ⟨(y 1).val, hd⟩).trans ?_)
  unfold result
  rw [e0, e1]

end Cert.Kernel5Ideal.Block
-- ==== Proof.GateClaim.lean ====
/- What the reference of the gate projection computes, entry by entry, and the claim: the kernel's array is the reference's
   result. -/
module

public import proofs.«01_k».proof.Defs
public import proofs.«01_k».proof.Proof.GateArray
public import proofs.«01_k».proof.Proof.Gen.Reference5Ideal.Read

@[expose] public section

set_option maxRecDepth 16384

noncomputable section

namespace Cert.Reference5Ideal.Entry

open Cert.Reference5Ideal Cert.Reference5Ideal.Gen Cert.Reference5Ideal.Read Cert.Cells Cert.Project
open Idealize.ShloMosaic Idealize.ShloMosaic.TcCoe Idealize.ShloMosaic.Tactic Idealize.SL.Sem

theorem zero_word : Ideal.ofBits FTy.f32 0x00000000#32 = 0 := by simp [Ideal.ofBits, Ideal.ieee]

variable (x0 : (⟨S32768x2048, .f32⟩ : BufTy).Contents (Elt Ideal)) (x1 : (⟨S1x2048, .f32⟩ : BufTy).Contents (Elt Ideal))
  (x2 : (⟨S2048x4096, .bf16⟩ : BufTy).Contents (Elt Ideal)) (x3 : (⟨S1x4096, .f32⟩ : BufTy).Contents (Elt Ideal))

/-- The row's inverse root mean square. -/
theorem v8_eq (i : S32768x2048.Idx) :
    val_main_v8 (F := Ideal) x0 i = Norm.inv fun e => cell x0 (i 0).val e.val := by
  rw [val_main_v8_apply, val_main_v7_apply, val_main_v6_apply, val_main_v5_apply, val_main_v4_apply, val_main_v3_apply,
    val_main_v2_apply, val_main_v1_apply, val_main_cst_apply, val_main_cst_0_apply, val_main_cst_1_apply]
  unfold Norm.inv
  refine congrArg (fun a => Ideal.rsqrt (Ideal.div a _ + _)) ?_
  refine (congrArg (· + _) zero_word).trans ((zero_add _).trans (Finset.sum_congr rfl fun k _ => ?_))
  rw [val_main_v0_apply]
  exact congrArg (fun a : EReal => a * a) (eq_cell x0 _ rfl rfl)

/-- The normalised rows. -/
theorem v11_eq (i : S32768x2048.Idx) : val_main_v11 (F := Ideal) x0 x1 i = input x0 x1 (i 0).val (i 1) := by
  rw [val_main_v11_apply, val_main_v10_apply, val_main_v9_apply, v8_eq]
  unfold input Norm.norm
  exact congrArg₂ (fun a b : EReal => a * _ * b) (eq_cell x0 i rfl rfl) (eq_cell x1 _ rfl rfl)

/-- The reference's result is the projection of the normalised rows. -/
theorem result_eq : val_main_v16 (F := Ideal) x0 x1 x2 x3 = result x0 x1 x2 x3 := by
  funext i
  rw [val_main_v16_apply, val_main_v15_apply, val_main_v14_apply, val_main_v13_apply]
  unfold result entry
  refine congrArg₂ (fun a b : EReal => a * b) (Finset.sum_congr rfl fun k _ => ?_) (eq_cell x3 _ rfl rfl)
  rw [v11_eq, val_main_v12_apply]
  exact congrArg (fun a : EReal => _ * a) (eq_cell x2 _ rfl rfl)

end Cert.Reference5Ideal.Entry

namespace Cert.Gate

open Cert.Kernel5Ideal.Block Cert.Project
open Idealize.ShloMosaic Idealize.ShloMosaic.TcCoe Idealize.SL.Sem

/-- The claim: the kernel of the gate projection computes its reference. -/
theorem algebraic : @Cert.algebraic_Kernel5Ideal_Reference5Ideal Cert.Kernel5Ideal.Gen.facts
    Cert.Reference5Ideal.Gen.facts := by
  intro m g m' g' _ hagree
  refine ⟨fun c => result (x0 m c) (x1 m c) (x2 m c) (x3 m c), ?_, ?_⟩
  · refine (θ_run Cert.Kernel5Ideal.defs _ _).mono (fun _ h c => ⟨(h c).1.trans ?_, (h c).2⟩)
      (Cert.Kernel5Ideal.Value.run_blocks m g)
    exact final m c
  · refine (θ_run Cert.Reference5Ideal.defs _ _).mono (fun _ h c => ⟨(h c).1.trans ?_, (h c).2⟩)
      (Cert.Reference5Ideal.Value.run (F := Ideal) m' g')
    obtain ⟨h0, h1, h2, h3⟩ := hagree c
    refine (Cert.Reference5Ideal.Read.val_main_v16_eq _ _ _ _).trans ?_
    rw [h0, h1, h2, h3]
    exact Cert.Reference5Ideal.Entry.result_eq _ _ _ _

end Cert.Gate
-- ==== Proof.Merge.lean ====
/- The merge of the two attentions, entry by entry: each attention projected back, the two mixed by their gates, the mixture
   projected, normalised and added to the row. -/
module

public import proofs.«01_k».proof.Proof.Norm
public import proofs.«01_k».proof.Proof.Cells

@[expose] public section

noncomputable section

namespace Cert.Merge

open Idealize.ShloMosaic Cert.Norm Cert.Cells

abbrev Rows : Type := Shape.Idx ⟨2, ![32768, 2048]⟩ → EReal
abbrev Heads : Type := Shape.Idx ⟨2, ![32768, 1024]⟩ → EReal
abbrev Gates : Type := Shape.Idx ⟨2, ![32768, 4096]⟩ → EReal
abbrev Biases : Type := Shape.Idx ⟨2, ![1, 4096]⟩ → EReal
abbrev Back : Type := Shape.Idx ⟨2, ![1024, 2048]⟩ → EReal
abbrev Out : Type := Shape.Idx ⟨2, ![2048, 2048]⟩ → EReal
abbrev Gains : Type := Shape.Idx ⟨2, ![1, 2048]⟩ → EReal

variable (x : Rows) (a b : Heads) (l : Gates) (q : Biases) (u v : Back) (w : Out) (g : Gains)

/-- Gate `n` of row `R`: the sigmoid of its logit raised by its bias. -/
def gate (R n : ℕ) : EReal := Ideal.logistic (cell l R n + cell q 0 n)

/-- An attention's row `R` projected back on column `n`. -/
def back (R n : ℕ) : EReal := ∑ p : Fin 1024, cell a R p.val * cell u p.val n

/-- The two attentions' projections, each times its gate, added. -/
def mixture (R n : ℕ) : EReal := gate l q R n * back a u R n + gate l q R (2048 + n) * back b v R n

/-- The mixture projected on column `e`. -/
def mixed (R : ℕ) (e : Fin 2048) : EReal := ∑ p : Fin 2048, mixture a b l q u v R p.val * cell w p.val e.val

/-- The merge: the projected mixture, normalised, added to the row. -/
def result (j : Shape.Idx ⟨2, ![32768, 2048]⟩) : EReal :=
  x j + norm (mixed a b l q u v w (j 0).val) (fun e => cell g 0 e.val) (j 1)

end Cert.Merge
-- ==== Proof.MergeArray.lean ====
/- The array the merge's kernel leaves: each entry is the merge of its row, read from the call's arguments. -/
module

public import proofs.«01_k».proof.Proof.Gen.Kernel6Ideal.Value
public import proofs.«01_k».proof.Proof.Merge
public import Idealize.ShloMosaic.Lib.Pipeline.ValueKit
public import Idealize.ShloMosaic.Lib.Pointwise

@[expose] public section

set_option maxRecDepth 16384

noncomputable section

namespace Cert.Kernel6Ideal.Block

open Cert.Kernel6Ideal Cert.Kernel6Ideal.Gen Cert.Cells Cert.Merge
open Idealize.ShloMosaic Idealize.ShloMosaic.TcCoe Idealize.ShloMosaic.Tactic Idealize.SL.Sem

theorem zero_offset : (![0, 0] : Fin 2 → ℕ) = fun _ => 0 := by funext a; fin_cases a <;> rfl

/-- A point stores its payload of its blocks. -/
theorem stored_eq (x0 : Vec Ideal S256x2048 .f32) (x1 x2 : Vec Ideal S256x1024 .bf16) (x3 : Vec Ideal S256x4096 .bf16)
    (x4 : Vec Ideal S1x4096 .f32) (x5 x6 : Vec Ideal S1024x2048 .bf16) (x7 : Vec Ideal S2048x2048 .bf16)
    (x8 : Vec Ideal S1x2048 .f32) :
    out0_9 x0 x1 x2 x3 x4 x5 x6 x7 x8 = k0_pay1 x1 x5 x2 x6 x3 x4 x7 x0 x8 := by
  unfold out0_9
  refine (View.canon_unit_zero (S := S256x2048) zero_offset _ _).trans ?_
  rw [View.ld_unit_zero (S := S256x1024) zero_offset _ x1, View.ld_unit_zero (S := S256x1024) zero_offset _ x2,
    View.ld_unit_zero (S := S1024x2048) zero_offset _ x5, View.ld_unit_zero (S := S1024x2048) zero_offset _ x6,
    View.ld_unit_zero (S := S256x4096) zero_offset _ x3, View.ld_unit_zero (S := S1x4096) zero_offset _ x4,
    View.ld_unit_zero (S := S2048x2048) zero_offset _ x7, View.ld_unit_zero (S := S256x2048) zero_offset _ x0,
    View.ld_unit_zero (S := S1x2048) zero_offset _ x8]

/-- A block's mixture: the two projections, each times its half of the gates, added. -/
def blockMixture (a : Vec Ideal S256x1024 .bf16) (u : Vec Ideal S1024x2048 .bf16) (b : Vec Ideal S256x1024 .bf16)
    (v : Vec Ideal S1024x2048 .bf16) (l : Vec Ideal S256x4096 .bf16) (q : Vec Ideal S1x4096 .f32) (r : Fin 256)
    (n : Fin 2048) : EReal :=
  Ideal.logistic (l (ix2 r ⟨n.val, by omega⟩) + q (ix2 0 ⟨n.val, by omega⟩)) * (∑ p : Fin 1024, a (ix2 r p) * u (ix2 p n))
    + Ideal.logistic (l (ix2 r ⟨2048 + n.val, by omega⟩) + q (ix2 0 ⟨2048 + n.val, by omega⟩))
      * ∑ p : Fin 1024, b (ix2 r p) * v (ix2 p n)

set_option backward.isDefEq.respectTransparency false in
theorem pay1 (a : Vec Ideal S256x1024 .bf16) (u : Vec Ideal S1024x2048 .bf16) (b : Vec Ideal S256x1024 .bf16)
    (v : Vec Ideal S1024x2048 .bf16) (l : Vec Ideal S256x4096 .bf16) (q : Vec Ideal S1x4096 .f32)
    (w : Vec Ideal S2048x2048 .bf16) (x : Vec Ideal S256x2048 .f32) (g : Vec Ideal S1x2048 .f32) (r : Fin 256)
    (e : Fin 2048) :
    k0_pay1 a u b v l q w x g (ix2 r e) = x (ix2 r e)
      + Norm.norm (fun e => ∑ p : Fin 2048, blockMixture a u b v l q r p * w (ix2 p e)) (fun e => g (ix2 0 e)) e := by
  pointwise [k0_pay1]
  rfl

variable (m : (ℓ : Loc nD τ sig) → Buf (Elt Ideal) ℓ) (c : Dev nD)

abbrev x0 : S32768x2048.Idx → EReal := m ((c : Thread nD τ).loc main_arg0)
abbrev x1 : S32768x1024.Idx → EReal := m ((c : Thread nD τ).loc main_arg1)
abbrev x2 : S32768x1024.Idx → EReal := m ((c : Thread nD τ).loc main_arg2)
abbrev x3 : S32768x4096.Idx → EReal := m ((c : Thread nD τ).loc main_arg3)
abbrev x4 : S1x4096.Idx → EReal := m ((c : Thread nD τ).loc main_arg4)
abbrev x5 : S1024x2048.Idx → EReal := m ((c : Thread nD τ).loc main_arg5)
abbrev x6 : S1024x2048.Idx → EReal := m ((c : Thread nD τ).loc main_arg6)
abbrev x7 : S2048x2048.Idx → EReal := m ((c : Thread nD τ).loc main_arg7)
abbrev x8 : S1x2048.Idx → EReal := m ((c : Thread nD τ).loc main_arg8)

/-- The block indices of every point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![0, 0] ∧ win0_9.index t = ![t.val, 0] :=
  (by decide +kernel : ∀ t : Fin grid0.N, _)

theorem blk0 (t : Fin cfg0.N) (r : Fin 256) (e : Fin 2048) :
    iblk m c 0 t (ix2 r e) = cell (x0 m c) (256 * t.val + r.val) e.val := by
  obtain ⟨h, -⟩ := idx t
  refine Eq.trans ?_ (eq_cell (x0 m c) (((cfg0.win 0).blk t).view.emb (ix2 r e)) ?_ ?_)
  · blk_simp [iblk, V]
  · blk_simp [h]
    omega
  · blk_simp [h]

theorem blk1 (t : Fin cfg0.N) (r : Fin 256) (p : Fin 1024) :
    iblk m c 1 t (ix2 r p) = cell (x1 m c) (256 * t.val + r.val) p.val := by
  obtain ⟨-, h, -⟩ := idx t
  refine Eq.trans ?_ (eq_cell (x1 m c) (((cfg0.win 1).blk t).view.emb (ix2 r p)) ?_ ?_)
  · blk_simp [iblk, V]
  · blk_simp [h]
    omega
  · blk_simp [h]

theorem blk2 (t : Fin cfg0.N) (r : Fin 256) (p : Fin 1024) :
    iblk m c 2 t (ix2 r p) = cell (x2 m c) (256 * t.val + r.val) p.val := by
  obtain ⟨-, -, h, -⟩ := idx t
  refine Eq.trans ?_ (eq_cell (x2 m c) (((cfg0.win 2).blk t).view.emb (ix2 r p)) ?_ ?_)
  · blk_simp [iblk, V]
  · blk_simp [h]
    omega
  · blk_simp [h]

theorem blk3 (t : Fin cfg0.N) (r : Fin 256) (n : Fin 4096) :
    iblk m c 3 t (ix2 r n) = cell (x3 m c) (256 * t.val + r.val) n.val := by
  obtain ⟨-, -, -, h, -⟩ := idx t
  refine Eq.trans ?_ (eq_cell (x3 m c) (((cfg0.win 3).blk t).view.emb (ix2 r n)) ?_ ?_)
  · blk_simp [iblk, V]
  · blk_simp [h]
    omega
  · blk_simp [h]

theorem blk4 (t : Fin cfg0.N) (n : Fin 4096) : iblk m c 4 t (ix2 0 n) = cell (x4 m c) 0 n.val := by
  obtain ⟨-, -, -, -, h, -⟩ := idx t
  refine Eq.trans ?_ (eq_cell (x4 m c) (((cfg0.win 4).blk t).view.emb (ix2 0 n)) ?_ ?_)
  · blk_simp [iblk, V]
  · blk_simp [h]
    rfl
  · blk_simp [h]

theorem blk5 (t : Fin cfg0.N) (p : Fin 1024) (n : Fin 2048) : iblk m c 5 t (ix2 p n) = cell (x5 m c) p.val n.val := by
  obtain ⟨-, -, -, -, -, h, -⟩ := idx t
  refine Eq.trans ?_ (eq_cell (x5 m c) (((cfg0.win 5).blk t).view.emb (ix2 p n)) ?_ ?_)
  · blk_simp [iblk, V]
  · blk_simp [h]
  · blk_simp [h]

theorem blk6 (t : Fin cfg0.N) (p : Fin 1024) (n : Fin 2048) : iblk m c 6 t (ix2 p n) = cell (x6 m c) p.val n.val := by
  obtain ⟨-, -, -, -, -, -, h, -⟩ := idx t
  refine Eq.trans ?_ (eq_cell (x6 m c) (((cfg0.win 6).blk t).view.emb (ix2 p n)) ?_ ?_)
  · blk_simp [iblk, V]
  · blk_simp [h]
  · blk_simp [h]

theorem blk7 (t : Fin cfg0.N) (p e : Fin 2048) : iblk m c 7 t (ix2 p e) = cell (x7 m c) p.val e.val := by
  obtain ⟨-, -, -, -, -, -, -, h, -⟩ := idx t
  refine Eq.trans ?_ (eq_cell (x7 m c) (((cfg0.win 7).blk t).view.emb (ix2 p e)) ?_ ?_)
  · blk_simp [iblk, V]
  · blk_simp [h]
  · blk_simp [h]

theorem blk8 (t : Fin cfg0.N) (e : Fin 2048) : iblk m c 8 t (ix2 0 e) = cell (x8 m c) 0 e.val := by
  obtain ⟨-, -, -, -, -, -, -, -, h, -⟩ := idx t
  refine Eq.trans ?_ (eq_cell (x8 m c) (((cfg0.win 8).blk t).view.emb (ix2 0 e)) ?_ ?_)
  · blk_simp [iblk, V]
  · blk_simp [h]
    rfl
  · blk_simp [h]

/-- A block's mixture is the mixture of its rows, the blocks' entries being the arrays'. -/
theorem mixture_eq (a : Vec Ideal S256x1024 .bf16) (u : Vec Ideal S1024x2048 .bf16) (b : Vec Ideal S256x1024 .bf16)
    (v : Vec Ideal S1024x2048 .bf16) (l : Vec Ideal S256x4096 .bf16) (q : Vec Ideal S1x4096 .f32)
    (a' b' : Heads) (l' : Gates) (q' : Biases) (u' v' : Back) (R : ℕ) (r : Fin 256)
    (ha : ∀ p, a (ix2 r p) = cell a' R p.val) (hb : ∀ p, b (ix2 r p) = cell b' R p.val)
    (hu : ∀ p n, u (ix2 p n) = cell u' p.val n.val) (hv : ∀ p n, v (ix2 p n) = cell v' p.val n.val)
    (hl : ∀ n, l (ix2 r n) = cell l' R n.val) (hq : ∀ n, q (ix2 0 n) = cell q' 0 n.val) (n : Fin 2048) :
    blockMixture a u b v l q r n = mixture a' b' l' q' u' v' R n.val := by
  unfold blockMixture mixture gate back
  simp only [ha, hb, hu, hv, hl, hq]

/-- What point `t` stores. -/
theorem stored (t : Fin cfg0.N) (r : Fin 256) (e : Fin 2048) :
    out0_9 (iblk m c 0 t) (iblk m c 1 t) (iblk m c 2 t) (iblk m c 3 t) (iblk m c 4 t) (iblk m c 5 t) (iblk m c 6 t)
        (iblk m c 7 t) (iblk m c 8 t) (ix2 r e)
      = cell (x0 m c) (256 * t.val + r.val) e.val
        + Norm.norm (mixed (x1 m c) (x2 m c) (x3 m c) (x4 m c) (x5 m c) (x6 m c) (x7 m c) (256 * t.val + r.val))
          (fun e => cell (x8 m c) 0 e.val) e := by
  rw [stored_eq]
  refine (pay1 _ _ _ _ _ _ _ _ _ r e).trans ?_
  refine congrArg₂ (fun a b : EReal => a + b) (blk0 m c t r e) ?_
  refine congrArg₂ (fun a b => Norm.norm a b e) (funext fun e => ?_) (funext fun e => blk8 m c t e)
  exact Finset.sum_congr rfl fun p _ =>
    congrArg₂ (fun a b : EReal => a * b) (mixture_eq _ _ _ _ _ _ _ _ _ _ _ _ _ r (blk1 m c t r) (blk2 m c t r)
      (blk5 m c t) (blk6 m c t) (blk3 m c t r) (blk4 m c t) p) (blk7 m c t p e)

/-- The output array is the merge. -/
theorem final : (dats m 0 c).arrAt 9 (cfgs 0).N
    = result (x0 m c) (x1 m c) (x2 m c) (x3 m c) (x4 m c) (x5 m c) (x6 m c) (x7 m c) (x8 m c) := by
  refine (dats m 0 c).arrAt_eq_of_covers 9 _ (by decide +kernel) fun t _ y => ?_
  blk_simp
  rw [after0_9]
  obtain ⟨-, -, -, -, -, -, -, -, -, h⟩ := idx t
  have hr : (y 0).val < 256 := (y 0).isLt
  have hd : (y 1).val < 2048 := (y 1).isLt
  have e0 : ((((cfg0.win 9).blk t).view.emb y) 0).val = 256 * t.val + (y 0).val := by
    blk_simp [h]
    omega
  have e1 : ((((cfg0.win 9).blk t).view.emb y) 1).val = (y 1).val := by
    blk_simp [h]
  have ey : y = ix2 ⟨(y 0).val, hr⟩ ⟨(y 1).val, hd⟩ := by
    funext a; match a with | ⟨0, _⟩ => rfl | ⟨1, _⟩ => rfl
  refine Eq.trans (congrArg _ ey) ((stored m c t ⟨(y 0).val, hr⟩ ⟨(y 1).val, hd⟩).trans ?_)
  unfold result
  rw [eq_cell (x0 m c) _ e0 e1, e0]
  exact congrArg _ (congrArg _ (Fin.ext e1.symm))

end Cert.Kernel6Ideal.Block
-- ==== Proof.MergeClaim.lean ====
/- What the reference of the merge computes, entry by entry, and the claim: the kernel's array is the reference's result. -/
module

public import proofs.«01_k».proof.Defs
public import proofs.«01_k».proof.Proof.MergeArray
public import proofs.«01_k».proof.Proof.Gen.Reference6Ideal.Read

@[expose] public section

set_option maxRecDepth 16384

noncomputable section

namespace Cert.Reference6Ideal.Entry

open Cert.Reference6Ideal Cert.Reference6Ideal.Gen Cert.Reference6Ideal.Read Cert.Cells Cert.Merge
open Idealize.ShloMosaic Idealize.ShloMosaic.TcCoe Idealize.ShloMosaic.Tactic Idealize.SL.Sem

theorem zero_word : Ideal.ofBits FTy.f32 0x00000000#32 = 0 := by simp [Ideal.ofBits, Ideal.ieee]
theorem one_word : Ideal.ofBits FTy.f32 0x3F800000#32 = 1 := by
  simp [Ideal.ofBits, Ideal.ieee]
  rw [← EReal.coe_mul]
  norm_num

variable (x0 : (⟨S32768x2048, .f32⟩ : BufTy).Contents (Elt Ideal)) (x1 : (⟨S32768x1024, .bf16⟩ : BufTy).Contents (Elt Ideal))
  (x2 : (⟨S32768x1024, .bf16⟩ : BufTy).Contents (Elt Ideal)) (x3 : (⟨S32768x4096, .bf16⟩ : BufTy).Contents (Elt Ideal))
  (x4 : (⟨S1x4096, .f32⟩ : BufTy).Contents (Elt Ideal)) (x5 : (⟨S1024x2048, .bf16⟩ : BufTy).Contents (Elt Ideal))
  (x6 : (⟨S1024x2048, .bf16⟩ : BufTy).Contents (Elt Ideal)) (x7 : (⟨S2048x2048, .bf16⟩ : BufTy).Contents (Elt Ideal))
  (x8 : (⟨S1x2048, .f32⟩ : BufTy).Contents (Elt Ideal))

/-- The first attention projected back. -/
theorem v2_eq (i : S32768x2048.Idx) : val_main_v2 (F := Ideal) x1 x5 i = back x1 x5 (i 0).val (i 1).val := by
  rw [val_main_v2_apply]
  refine Finset.sum_congr rfl fun k _ => ?_
  rw [val_main_v0_apply, val_main_v1_apply]
  exact congrArg₂ (fun a b : EReal => a * b) (eq_cell x1 _ rfl rfl) (eq_cell x5 _ rfl rfl)

/-- The second attention projected back. -/
theorem v5_eq (i : S32768x2048.Idx) : val_main_v5 (F := Ideal) x2 x6 i = back x2 x6 (i 0).val (i 1).val := by
  rw [val_main_v5_apply]
  refine Finset.sum_congr rfl fun k _ => ?_
  rw [val_main_v3_apply, val_main_v4_apply]
  exact congrArg₂ (fun a b : EReal => a * b) (eq_cell x2 _ rfl rfl) (eq_cell x6 _ rfl rfl)

/-- The logits raised by their biases. -/
theorem v8_eq (i : S32768x4096.Idx) :
    val_main_v8 (F := Ideal) x3 x4 i = cell x3 (i 0).val (i 1).val + cell x4 0 (i 1).val := by
  rw [val_main_v8_apply, val_main_v6_apply, val_main_v7_apply]
  exact congrArg₂ (fun a b : EReal => a + b) (eq_cell x3 i rfl rfl) (eq_cell x4 _ rfl rfl)

/-- The gates. -/
theorem v14_eq (i : S32768x4096.Idx) : val_main_v14 (F := Ideal) x3 x4 i = gate x3 x4 (i 0).val (i 1).val := by
  rw [val_main_v14_apply, val_main_v13_apply, val_main_v12_apply, val_main_v11_apply, val_main_v10_apply,
    val_main_v9_apply, val_main_cst_apply, val_main_cst_0_apply, v8_eq]
  show Ideal.div (Ideal.ofBits FTy.f32 0x3F800000#32)
    (Ideal.ofBits FTy.f32 0x3F800000#32 + Ideal.exp (-(cell x3 (i 0).val (i 1).val + cell x4 0 (i 1).val))) = _
  rw [one_word]
  rfl

/-- The mixture. -/
theorem v19_eq (i : S32768x2048.Idx) :
    val_main_v19 (F := Ideal) x1 x2 x3 x4 x5 x6 i = mixture x1 x2 x3 x4 x5 x6 (i 0).val (i 1).val := by
  rw [val_main_v19_apply, val_main_v18_apply, val_main_v17_apply, val_main_v16_apply, val_main_v15_apply, v14_eq, v14_eq,
    v2_eq, v5_eq]
  rfl

/-- The mixture projected. -/
theorem v21_eq (i : S32768x2048.Idx) :
    val_main_v21 (F := Ideal) x1 x2 x3 x4 x5 x6 x7 i = mixed x1 x2 x3 x4 x5 x6 x7 (i 0).val (i 1) := by
  rw [val_main_v21_apply]
  refine Finset.sum_congr rfl fun k _ => ?_
  rw [v19_eq, val_main_v20_apply]
  exact congrArg (fun a : EReal => _ * a) (eq_cell x7 _ rfl rfl)

/-- Its rows' inverse root mean square. -/
theorem v30_eq (i : S32768x2048.Idx) :
    val_main_v30 (F := Ideal) x1 x2 x3 x4 x5 x6 x7 i = Norm.inv (mixed x1 x2 x3 x4 x5 x6 x7 (i 0).val) := by
  rw [val_main_v30_apply, val_main_v29_apply, val_main_v28_apply, val_main_v27_apply, val_main_v26_apply,
    val_main_v25_apply, val_main_v24_apply, val_main_v23_apply, val_main_cst_1_apply, val_main_cst_2_apply,
    val_main_cst_3_apply]
  unfold Norm.inv
  refine congrArg (fun a => Ideal.rsqrt (Ideal.div a _ + _)) ?_
  refine (congrArg (· + _) zero_word).trans ((zero_add _).trans (Finset.sum_congr rfl fun k _ => ?_))
  rw [val_main_v22_apply, v21_eq]
  rfl

/-- The reference's result is the merge. -/
theorem result_eq : val_main_v34 (F := Ideal) x0 x1 x2 x3 x4 x5 x6 x7 x8 = result x0 x1 x2 x3 x4 x5 x6 x7 x8 := by
  funext i
  rw [val_main_v34_apply, val_main_v33_apply, val_main_v32_apply, val_main_v31_apply, v30_eq, v21_eq]
  unfold result Norm.norm
  exact congrArg (fun a : EReal => x0 i + _ * _ * a) (eq_cell x8 _ rfl rfl)

end Cert.Reference6Ideal.Entry

namespace Cert.Merge

open Cert.Kernel6Ideal.Block
open Idealize.ShloMosaic Idealize.ShloMosaic.TcCoe Idealize.SL.Sem

/-- The claim: the kernel of the merge computes its reference. -/
theorem algebraic : @Cert.algebraic_Kernel6Ideal_Reference6Ideal Cert.Kernel6Ideal.Gen.facts
    Cert.Reference6Ideal.Gen.facts := by
  intro m g m' g' _ hagree
  refine ⟨fun c => result (x0 m c) (x1 m c) (x2 m c) (x3 m c) (x4 m c) (x5 m c) (x6 m c) (x7 m c) (x8 m c), ?_, ?_⟩
  · refine (θ_run Cert.Kernel6Ideal.defs _ _).mono (fun _ h c => ⟨(h c).1.trans ?_, (h c).2⟩)
      (Cert.Kernel6Ideal.Value.run_blocks m g)
    exact final m c
  · refine (θ_run Cert.Reference6Ideal.defs _ _).mono (fun _ h c => ⟨(h c).1.trans ?_, (h c).2⟩)
      (Cert.Reference6Ideal.Value.run (F := Ideal) m' g')
    obtain ⟨h0, h1, h2, h3, h4, h5, h6, h7, h8⟩ := hagree c
    refine (Cert.Reference6Ideal.Read.val_main_v34_eq _ _).trans ?_
    rw [h0, h1, h2, h3, h4, h5, h6, h7, h8]
    exact Cert.Reference6Ideal.Entry.result_eq _ _ _ _ _ _ _ _ _

end Cert.Merge
-- ==== Proof.lean ====
/- The certificate: every claim about the programs, assembled from the frames and from the equations of the calls. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.MlaClaim
public import proofs.«01_k».proof.Proof.SbClaim
public import proofs.«01_k».proof.Proof.Gen.Kernel3.Frame
public import proofs.«01_k».proof.Proof.FfnClaim
public import proofs.«01_k».proof.Proof.Gen.Kernel4.Frame
public import proofs.«01_k».proof.Proof.QkvClaim
public import proofs.«01_k».proof.Proof.Gen.Kernel5.Frame
public import proofs.«01_k».proof.Proof.GateClaim
public import proofs.«01_k».proof.Proof.Gen.Kernel6.Frame
public import proofs.«01_k».proof.Proof.MergeClaim
public import proofs.«01_k».proof.Proof.Gen.Kernel7.Frame
public import proofs.«01_k».proof.Proof.Gen.Kernel7Ideal.Value
public import Idealize.ShloMosaic.Lib.Quiescent

@[expose] public section

noncomputable section

namespace Cert.Proof

open Idealize.ShloMosaic Idealize.SL.Sem

/-- The reference of the stick-breaking attention runs and leaves its argument and every semaphore as it found them. -/
theorem frame_ref (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- The reference of the latent attention runs and leaves its arguments and every semaphore as it found them. -/
theorem frame_ref2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2)
          = m ((c.tc : Thread Cert.Reference2Ideal.nD Cert.Reference2Ideal.τ).loc Cert.Reference2Ideal.main_arg2))
        ∧ r.2.sem = fun _ => 0) :=
  (θ_run Cert.Reference2Ideal.defs _ _).mono
    (fun r h => ⟨fun c => (h c).2, sem_eq_zero_of_no_sems (by decide) r.2⟩)
    (Cert.Reference2Ideal.Value.run (F := Ideal) m g)

/-- The reference of the feed-forward layer runs and leaves its arguments and every semaphore as it found them. -/
theorem frame_ref3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD,
        r.2.mem ((c.tc : Thread Cert.Reference3Ideal.nD Cert.Reference3Ideal.τ).loc Cert.Reference3Ideal.main_arg0)
          = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1)
          = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2)
          = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3)
          = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4)
          = m ((c.tc : Thread Cert.Reference3Ideal.nD Cert.Reference3Ideal.τ).loc Cert.Reference3Ideal.main_arg4))
        ∧ r.2.sem = fun _ => 0) :=
  (θ_run Cert.Reference3Ideal.defs _ _).mono
    (fun r h => ⟨fun c => (h c).2, sem_eq_zero_of_no_sems (by decide) r.2⟩)
    (Cert.Reference3Ideal.Value.run (F := Ideal) m g)

/-- The reference of the query, key and value projection runs and leaves its arguments and every semaphore as it found them. -/
theorem frame_ref4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal)))
      ⟨m, fun _ => 0, g⟩ (fun r => (∀ c : Dev Cert.Reference4Ideal.nD,
        r.2.mem ((c.tc : Thread Cert.Reference4Ideal.nD Cert.Reference4Ideal.τ).loc Cert.Reference4Ideal.main_arg0)
          = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1)
          = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2)
          = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3)
          = m ((c.tc : Thread Cert.Reference4Ideal.nD Cert.Reference4Ideal.τ).loc Cert.Reference4Ideal.main_arg3))
        ∧ r.2.sem = fun _ => 0) :=
  (θ_run Cert.Reference4Ideal.defs _ _).mono
    (fun r h => ⟨fun c => (h c).2, sem_eq_zero_of_no_sems (by decide) r.2⟩)
    (Cert.Reference4Ideal.Value.run (F := Ideal) m g)

/-- The reference of the gate projection runs and leaves its arguments and every semaphore as it found them. -/
theorem frame_ref5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal)))
      ⟨m, fun _ => 0, g⟩ (fun r => (∀ c : Dev Cert.Reference5Ideal.nD,
        r.2.mem ((c.tc : Thread Cert.Reference5Ideal.nD Cert.Reference5Ideal.τ).loc Cert.Reference5Ideal.main_arg0)
          = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1)
          = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2)
          = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3)
          = m ((c.tc : Thread Cert.Reference5Ideal.nD Cert.Reference5Ideal.τ).loc Cert.Reference5Ideal.main_arg3))
        ∧ r.2.sem = fun _ => 0) :=
  (θ_run Cert.Reference5Ideal.defs _ _).mono
    (fun r h => ⟨fun c => (h c).2, sem_eq_zero_of_no_sems (by decide) r.2⟩)
    (Cert.Reference5Ideal.Value.run (F := Ideal) m g)

/-- The reference of the merge runs and leaves its arguments and every semaphore as it found them. -/
theorem frame_ref6 (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal)))
      ⟨m, fun _ => 0, g⟩ (fun r => (∀ c : Dev Cert.Reference6Ideal.nD,
        r.2.mem ((c.tc : Thread Cert.Reference6Ideal.nD Cert.Reference6Ideal.τ).loc Cert.Reference6Ideal.main_arg0)
          = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1)
          = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2)
          = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3)
          = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4)
          = m ((c.tc : Thread Cert.Reference6Ideal.nD Cert.Reference6Ideal.τ).loc Cert.Reference6Ideal.main_arg4)
        ∧ r.2.mem ((c.tc : Thread Cert.Reference6Ideal.nD Cert.Reference6Ideal.τ).loc Cert.Reference6Ideal.main_arg5)
          = m ((c.tc : Thread Cert.Reference6Ideal.nD Cert.Reference6Ideal.τ).loc Cert.Reference6Ideal.main_arg5)
        ∧ r.2.mem ((c.tc : Thread Cert.Reference6Ideal.nD Cert.Reference6Ideal.τ).loc Cert.Reference6Ideal.main_arg6)
          = m ((c.tc : Thread Cert.Reference6Ideal.nD Cert.Reference6Ideal.τ).loc Cert.Reference6Ideal.main_arg6)
        ∧ r.2.mem ((c.tc : Thread Cert.Reference6Ideal.nD Cert.Reference6Ideal.τ).loc Cert.Reference6Ideal.main_arg7)
          = m ((c.tc : Thread Cert.Reference6Ideal.nD Cert.Reference6Ideal.τ).loc Cert.Reference6Ideal.main_arg7)
        ∧ r.2.mem ((c.tc : Thread Cert.Reference6Ideal.nD Cert.Reference6Ideal.τ).loc Cert.Reference6Ideal.main_arg8)
          = m ((c.tc : Thread Cert.Reference6Ideal.nD Cert.Reference6Ideal.τ).loc Cert.Reference6Ideal.main_arg8))
        ∧ r.2.sem = fun _ => 0) :=
  (θ_run Cert.Reference6Ideal.defs _ _).mono
    (fun r h => ⟨fun c => (h c).2, sem_eq_zero_of_no_sems (by decide) r.2⟩)
    (Cert.Reference6Ideal.Value.run (F := Ideal) m g)

/-- The claims of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts,
    Cert.Finite.facts, Cert.Finite.facts2,
    fun m g _ => Cert.Kernel.Gen.frame m g,
    fun m g _ => Cert.KernelIdeal.Gen.frame m g,
    fun m g _ => Cert.KernelIdeal.Gen.frame m g,
    fun m g _ => frame_ref m g,
    fun m g _ => frame_ref m g,
    fun m g _ => Cert.Kernel2.Gen.frame m g,
    fun m g _ => Cert.Kernel2Ideal.Gen.frame m g,
    fun m g _ => Cert.Kernel2Ideal.Gen.frame m g,
    fun m g _ => frame_ref2 m g,
    fun m g _ => frame_ref2 m g,
    fun m g _ => Cert.Kernel3.Gen.frame m g,
    fun m g _ => Cert.Kernel3Ideal.Gen.frame m g,
    fun m g _ => frame_ref3 m g,
    fun m g _ => Cert.Kernel4.Gen.frame m g,
    fun m g _ => Cert.Kernel4Ideal.Gen.frame m g,
    fun m g _ => frame_ref4 m g,
    fun m g _ => Cert.Kernel5.Gen.frame m g,
    fun m g _ => Cert.Kernel5Ideal.Gen.frame m g,
    fun m g _ => frame_ref5 m g,
    fun m g _ => Cert.Kernel6.Gen.frame m g,
    fun m g _ => Cert.Kernel6Ideal.Gen.frame m g,
    fun m g _ => frame_ref6 m g,
    fun m g _ => Cert.Kernel7.Gen.frame m g,
    fun m g _ => Cert.Kernel7Ideal.Gen.frame m g,
    trivial,
    Cert.Sb.algebraic,
    IdealRules.named_const.statement _ _ _ _ _ rfl,
    Cert.Mla.algebraic,
    trivial,
    Cert.Ffn.algebraic,
    trivial,
    Cert.Qkv.algebraic,
    trivial,
    Cert.Gate.algebraic,
    trivial,
    Cert.Merge.algebraic,
    trivial⟩

end Cert.Proof

end
